-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unbiased_unmasked_finite [hPre_unbiased_unmasked_finite : Cert.Pre_unbiased_unmasked_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.1 = (fun _ => 1#1)
    ∧ (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unbiased_unmasked_finite [hPre_unbiased_unmasked_finite : Cert.Pre_unbiased_unmasked_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.1 = (fun _ => 1#1)
    ∧ (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_unbiased_unmasked_finite [hKernelIdeal : Cert.KernelIdeal.Facts] [hPre_unbiased_unmasked_finite : Cert.Pre_unbiased_unmasked_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unbiased_unmasked_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_unbiased_unmasked_finite [hReferenceIdeal : Cert.ReferenceIdeal.Facts] [hPre_unbiased_unmasked_finite : Cert.Pre_unbiased_unmasked_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unbiased_unmasked_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_unbiased_unmasked_finite [hKernelIdeal : Cert.KernelIdeal.Facts] [hReferenceIdeal : Cert.ReferenceIdeal.Facts] [hPre_unbiased_unmasked_finite : Cert.Pre_unbiased_unmasked_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unbiased_unmasked_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_unbiased_unmasked_finite : Cert.Pre_unbiased_unmasked_finite.Facts),
    quiescent_Kernel (hKernel := hKernel)
    ∧ quiescent_KernelIdeal (hKernelIdeal := hKernelIdeal)
    ∧ quiescent_KernelIdeal_pre_unbiased_unmasked_finite (hKernelIdeal := hKernelIdeal) (hPre_unbiased_unmasked_finite := hPre_unbiased_unmasked_finite)
    ∧ quiescent_ReferenceIdeal (hReferenceIdeal := hReferenceIdeal)
    ∧ quiescent_ReferenceIdeal_pre_unbiased_unmasked_finite (hReferenceIdeal := hReferenceIdeal) (hPre_unbiased_unmasked_finite := hPre_unbiased_unmasked_finite)
    ∧ preserves_Kernel_KernelIdeal
    ∧ algebraic_KernelIdeal_ReferenceIdeal_pre_unbiased_unmasked_finite (hKernelIdeal := hKernelIdeal) (hReferenceIdeal := hReferenceIdeal) (hPre_unbiased_unmasked_finite := hPre_unbiased_unmasked_finite)
-- ==== Pre_unbiased_unmasked_finite.lean ====
abbrev S8x32x33 : Shape := ⟨3, ![8, 32, 33]⟩
abbrev S8x32x32 : Shape := ⟨3, ![8, 32, 32]⟩
abbrev S8x32x32x16 : Shape := ⟨4, ![8, 32, 32, 16]⟩
abbrev S16x2048 : Shape := ⟨2, ![16, 2048]⟩
abbrev S2048 : Shape := ⟨1, ![2048]⟩
abbrev S32x64 : Shape := ⟨2, ![32, 64]⟩
abbrev S64 : Shape := ⟨1, ![64]⟩
abbrev S3x16x4096 : Shape := ⟨3, ![3, 16, 4096]⟩
abbrev S3x4096 : Shape := ⟨2, ![3, 4096]⟩
abbrev S3x64x64 : Shape := ⟨3, ![3, 64, 64]⟩
abbrev S3x64 : Shape := ⟨2, ![3, 64]⟩
abbrev S64x19 : Shape := ⟨2, ![64, 19]⟩
abbrev S19 : Shape := ⟨1, ![19]⟩
abbrev S8x32x1 : Shape := ⟨3, ![8, 32, 1]⟩
abbrev S8x32 : Shape := ⟨2, ![8, 32]⟩
abbrev S_ : Shape := ⟨0, ![]⟩
abbrev S2x64x64 : Shape := ⟨3, ![2, 64, 64]⟩

class Facts : Prop where
  slices_S8x32x33_S8x32x1_0_0_32 : S8x32x33.Slices ![0, 0, 32] S8x32x1
  shapeCasts_S8x32x1_S8x32 : S8x32x1.ShapeCasts S8x32
  bcast_S_S8x32 : S_.BroadcastsInDim S8x32 (![] : Fin 0 → Fin S8x32.rank)
  bcast_S_S8x32x33 : S_.BroadcastsInDim S8x32x33 (![] : Fin 0 → Fin S8x32x33.rank)
  bcast_S_S8x32x32 : S_.BroadcastsInDim S8x32x32 (![] : Fin 0 → Fin S8x32x32.rank)
  bcast_S_S8x32x32x16 : S_.BroadcastsInDim S8x32x32x16 (![] : Fin 0 → Fin S8x32x32x16.rank)
  bcast_S_S16x2048 : S_.BroadcastsInDim S16x2048 (![] : Fin 0 → Fin S16x2048.rank)
  bcast_S_S2048 : S_.BroadcastsInDim S2048 (![] : Fin 0 → Fin S2048.rank)
  bcast_S_S32x64 : S_.BroadcastsInDim S32x64 (![] : Fin 0 → Fin S32x64.rank)
  bcast_S_S64 : S_.BroadcastsInDim S64 (![] : Fin 0 → Fin S64.rank)
  bcast_S_S3x16x4096 : S_.BroadcastsInDim S3x16x4096 (![] : Fin 0 → Fin S3x16x4096.rank)
  bcast_S_S3x4096 : S_.BroadcastsInDim S3x4096 (![] : Fin 0 → Fin S3x4096.rank)
  slices_S3x64x64_S2x64x64_0_0_0 : S3x64x64.Slices ![0, 0, 0] S2x64x64
  bcast_S_S2x64x64 : S_.BroadcastsInDim S2x64x64 (![] : Fin 0 → Fin S2x64x64.rank)
  bcast_S_S3x64 : S_.BroadcastsInDim S3x64 (![] : Fin 0 → Fin S3x64.rank)
  bcast_S_S19 : S_.BroadcastsInDim S19 (![] : Fin 0 → Fin S19.rank)

variable [Facts]

def fn_part2 {F : FTy → Type} [FloatOps F] (main_arg12 : FVec F S19 .f32) (main_v3 : IVec S8x32 1) (main_v6 : IVec S8x32x33 1) (main_v9 : IVec S8x32x32 1) (main_v12 : IVec S8x32x32x16 1) (main_v15 : IVec S16x2048 1) (main_v17 : IVec S2048 1) (main_v20 : IVec S32x64 1) (main_v22 : IVec S64 1) (main_v25 : IVec S3x16x4096 1) (main_v27 : IVec S3x4096 1) (main_v31 : IVec S2x64x64 1) (main_v33 : IVec S3x64 1) (main_v34 : FVec F S19 .f32) : IVec S8x32 1 × IVec S8x32x33 1 × IVec S8x32x32 1 × IVec S8x32x32x16 1 × IVec S16x2048 1 × IVec S2048 1 × IVec S32x64 1 × IVec S64 1 × IVec S3x16x4096 1 × IVec S3x4096 1 × IVec S2x64x64 1 × IVec S3x64 1 × IVec S19 1 :=
  let main_v35 : IVec S19 1 := cmpf .oeq main_arg12 main_v34
  (main_v3, main_v6, main_v9, main_v12, main_v15, main_v17, main_v20, main_v22, main_v25, main_v27, main_v31, main_v33, main_v35)

def fn_part1 {F : FTy → Type} [FloatOps F] (main_arg5 : FVec F S32x64 .f32) (main_arg6 : FVec F S64 .f32) (main_arg7 : FVec F S3x16x4096 .f32) (main_arg8 : FVec F S3x4096 .f32) (main_arg9 : FVec F S3x64x64 .f32) (main_arg10 : FVec F S3x64 .f32) (main_arg12 : FVec F S19 .f32) (main_v3 : IVec S8x32 1) (main_v6 : IVec S8x32x33 1) (main_v9 : IVec S8x32x32 1) (main_v12 : IVec S8x32x32x16 1) (main_v15 : IVec S16x2048 1) (main_v17 : IVec S2048 1) : IVec S8x32 1 × IVec S8x32x33 1 × IVec S8x32x32 1 × IVec S8x32x32x16 1 × IVec S16x2048 1 × IVec S2048 1 × IVec S32x64 1 × IVec S64 1 × IVec S3x16x4096 1 × IVec S3x4096 1 × IVec S2x64x64 1 × IVec S3x64 1 × IVec S19 1 :=
  let main_v18 : FVec F S32x64 .f32 := Host.absf main_arg5
  let main_cst_5 : FVec F S_ .f32 := constant S_ .f32 0x7F800000#32
  let main_v19 : FVec F S32x64 .f32 := broadcastInDim S32x64 ![] bcast_S_S32x64 main_cst_5
  let main_v20 : IVec S32x64 1 := cmpf .olt main_v18 main_v19
  let main_cst_6 : FVec F S_ .f32 := constant S_ .f32 0x00000000#32
  let main_v21 : FVec F S64 .f32 := broadcastInDim S64 ![] bcast_S_S64 main_cst_6
  let main_v22 : IVec S64 1 := cmpf .oeq main_arg6 main_v21
  let main_v23 : FVec F S3x16x4096 .f32 := Host.absf main_arg7
  let main_cst_7 : FVec F S_ .f32 := constant S_ .f32 0x7F800000#32
  let main_v24 : FVec F S3x16x4096 .f32 := broadcastInDim S3x16x4096 ![] bcast_S_S3x16x4096 main_cst_7
  let main_v25 : IVec S3x16x4096 1 := cmpf .olt main_v23 main_v24
  let main_cst_8 : FVec F S_ .f32 := constant S_ .f32 0x00000000#32
  let main_v26 : FVec F S3x4096 .f32 := broadcastInDim S3x4096 ![] bcast_S_S3x4096 main_cst_8
  let main_v27 : IVec S3x4096 1 := cmpf .oeq main_arg8 main_v26
  let main_v28 : FVec F S2x64x64 .f32 := (extractStridedSlice S2x64x64 ![0, 0, 0] · slices_S3x64x64_S2x64x64_0_0_0) main_arg9
  let main_v29 : FVec F S2x64x64 .f32 := Host.absf main_v28
  let main_cst_9 : FVec F S_ .f32 := constant S_ .f32 0x7F800000#32
  let main_v30 : FVec F S2x64x64 .f32 := broadcastInDim S2x64x64 ![] bcast_S_S2x64x64 main_cst_9
  let main_v31 : IVec S2x64x64 1 := cmpf .olt main_v29 main_v30
  let main_cst_10 : FVec F S_ .f32 := constant S_ .f32 0x00000000#32
  let main_v32 : FVec F S3x64 .f32 := broadcastInDim S3x64 ![] bcast_S_S3x64 main_cst_10
  let main_v33 : IVec S3x64 1 := cmpf .oeq main_arg10 main_v32
  let main_cst_11 : FVec F S_ .f32 := constant S_ .f32 0x00000000#32
  let main_v34 : FVec F S19 .f32 := broadcastInDim S19 ![] bcast_S_S19 main_cst_11
  fn_part2 (F := F) main_arg12 main_v3 main_v6 main_v9 main_v12 main_v15 main_v17 main_v20 main_v22 main_v25 main_v27 main_v31 main_v33 main_v34

def fn {F : FTy → Type} [FloatOps F] (main_arg0 : FVec F S8x32x33 .f32) (main_arg1 : FVec F S8x32x32 .f32) (main_arg2 : FVec F S8x32x32x16 .f32) (main_arg3 : FVec F S16x2048 .f32) (main_arg4 : FVec F S2048 .f32) (main_arg5 : FVec F S32x64 .f32) (main_arg6 : FVec F S64 .f32) (main_arg7 : FVec F S3x16x4096 .f32) (main_arg8 : FVec F S3x4096 .f32) (main_arg9 : FVec F S3x64x64 .f32) (main_arg10 : FVec F S3x64 .f32) (main_arg11 : FVec F S64x19 .f32) (main_arg12 : FVec F S19 .f32) : IVec S8x32 1 × IVec S8x32x33 1 × IVec S8x32x32 1 × IVec S8x32x32x16 1 × IVec S16x2048 1 × IVec S2048 1 × IVec S32x64 1 × IVec S64 1 × IVec S3x16x4096 1 × IVec S3x4096 1 × IVec S2x64x64 1 × IVec S3x64 1 × IVec S19 1 :=
  let main_v0 : FVec F S8x32x1 .f32 := (extractStridedSlice S8x32x1 ![0, 0, 32] · slices_S8x32x33_S8x32x1_0_0_32) main_arg0
  let main_v1 : FVec F S8x32 .f32 := shapeCast S8x32 main_v0 shapeCasts_S8x32x1_S8x32
  let main_cst : FVec F S_ .f32 := constant S_ .f32 0x3F800000#32
  let main_v2 : FVec F S8x32 .f32 := broadcastInDim S8x32 ![] bcast_S_S8x32 main_cst
  let main_v3 : IVec S8x32 1 := cmpf .oeq main_v1 main_v2
  let main_v4 : FVec F S8x32x33 .f32 := Host.absf main_arg0
  let main_cst_0 : FVec F S_ .f32 := constant S_ .f32 0x7F800000#32
  let main_v5 : FVec F S8x32x33 .f32 := broadcastInDim S8x32x33 ![] bcast_S_S8x32x33 main_cst_0
  let main_v6 : IVec S8x32x33 1 := cmpf .olt main_v4 main_v5
  let main_v7 : FVec F S8x32x32 .f32 := Host.absf main_arg1
  let main_cst_1 : FVec F S_ .f32 := constant S_ .f32 0x7F800000#32
  let main_v8 : FVec F S8x32x32 .f32 := broadcastInDim S8x32x32 ![] bcast_S_S8x32x32 main_cst_1
  let main_v9 : IVec S8x32x32 1 := cmpf .olt main_v7 main_v8
  let main_v10 : FVec F S8x32x32x16 .f32 := Host.absf main_arg2
  let main_cst_2 : FVec F S_ .f32 := constant S_ .f32 0x7F800000#32
  let main_v11 : FVec F S8x32x32x16 .f32 := broadcastInDim S8x32x32x16 ![] bcast_S_S8x32x32x16 main_cst_2
  let main_v12 : IVec S8x32x32x16 1 := cmpf .olt main_v10 main_v11
  let main_v13 : FVec F S16x2048 .f32 := Host.absf main_arg3
  let main_cst_3 : FVec F S_ .f32 := constant S_ .f32 0x7F800000#32
  let main_v14 : FVec F S16x2048 .f32 := broadcastInDim S16x2048 ![] bcast_S_S16x2048 main_cst_3
  let main_v15 : IVec S16x2048 1 := cmpf .olt main_v13 main_v14
  let main_cst_4 : FVec F S_ .f32 := constant S_ .f32 0x00000000#32
  let main_v16 : FVec F S2048 .f32 := broadcastInDim S2048 ![] bcast_S_S2048 main_cst_4
  let main_v17 : IVec S2048 1 := cmpf .oeq main_arg4 main_v16
  fn_part1 (F := F) main_arg5 main_arg6 main_arg7 main_arg8 main_arg9 main_arg10 main_arg12 main_v3 main_v6 main_v9 main_v12 main_v15 main_v17
-- ==== Kernel.lean ====
abbrev S8x32x33 : Shape := ⟨3, ![8, 32, 33]⟩
abbrev S8x32x32 : Shape := ⟨3, ![8, 32, 32]⟩
abbrev S8x32x32x16 : Shape := ⟨4, ![8, 32, 32, 16]⟩
abbrev S16x2048 : Shape := ⟨2, ![16, 2048]⟩
abbrev S2048 : Shape := ⟨1, ![2048]⟩
abbrev S32x64 : Shape := ⟨2, ![32, 64]⟩
abbrev S64 : Shape := ⟨1, ![64]⟩
abbrev S3x16x4096 : Shape := ⟨3, ![3, 16, 4096]⟩
abbrev S3x4096 : Shape := ⟨2, ![3, 4096]⟩
abbrev S3x64x64 : Shape := ⟨3, ![3, 64, 64]⟩
abbrev S3x64 : Shape := ⟨2, ![3, 64]⟩
abbrev S64x19 : Shape := ⟨2, ![64, 19]⟩
abbrev S19 : Shape := ⟨1, ![19]⟩
abbrev S8x32x16x32 : Shape := ⟨4, ![8, 32, 16, 32]⟩
abbrev S8x32x512 : Shape := ⟨3, ![8, 32, 512]⟩
abbrev S16x64x32 : Shape := ⟨3, ![16, 64, 32]⟩
abbrev S16x32x64 : Shape := ⟨3, ![16, 32, 64]⟩
abbrev S3x16x64x64 : Shape := ⟨4, ![3, 16, 64, 64]⟩
abbrev S8x19 : Shape := ⟨2, ![8, 19]⟩
abbrev S_ : Shape := ⟨0, ![]⟩
abbrev S1x32x32 : Shape := ⟨3, ![1, 32, 32]⟩
abbrev S32x32 : Shape := ⟨2, ![32, 32]⟩
abbrev S256x32 : Shape := ⟨2, ![256, 32]⟩
abbrev S32x512 : Shape := ⟨2, ![32, 512]⟩
abbrev S1x32x512 : Shape := ⟨3, ![1, 32, 512]⟩
abbrev S1x32x64 : Shape := ⟨3, ![1, 32, 64]⟩
abbrev S256x64 : Shape := ⟨2, ![256, 64]⟩
abbrev S512x64 : Shape := ⟨2, ![512, 64]⟩
abbrev S1x1x64x64 : Shape := ⟨4, ![1, 1, 64, 64]⟩
abbrev S64x64 : Shape := ⟨2, ![64, 64]⟩
abbrev S1x64x64 : Shape := ⟨3, ![1, 64, 64]⟩
abbrev S1x64 : Shape := ⟨2, ![1, 64]⟩
abbrev S8x64 : Shape := ⟨2, ![8, 64]⟩

abbrev nBuf : Space → Nat
  | .hbm => 20
  | .vmem => 9
  | .smem => 0
  | _ => 0

abbrev bufTy : (tb : Table) → Fin (tcTables nBuf tb) → BufTy
  | .hbm, ⟨0, _⟩ => ⟨S8x32x33, .f32⟩
  | .hbm, ⟨1, _⟩ => ⟨S8x32x32, .f32⟩
  | .hbm, ⟨2, _⟩ => ⟨S8x32x32x16, .f32⟩
  | .hbm, ⟨3, _⟩ => ⟨S16x2048, .f32⟩
  | .hbm, ⟨4, _⟩ => ⟨S2048, .f32⟩
  | .hbm, ⟨5, _⟩ => ⟨S32x64, .f32⟩
  | .hbm, ⟨6, _⟩ => ⟨S64, .f32⟩
  | .hbm, ⟨7, _⟩ => ⟨S3x16x4096, .f32⟩
  | .hbm, ⟨8, _⟩ => ⟨S3x4096, .f32⟩
  | .hbm, ⟨9, _⟩ => ⟨S3x64x64, .f32⟩
  | .hbm, ⟨10, _⟩ => ⟨S3x64, .f32⟩
  | .hbm, ⟨11, _⟩ => ⟨S64x19, .f32⟩
  | .hbm, ⟨12, _⟩ => ⟨S19, .f32⟩
  | .hbm, ⟨13, _⟩ => ⟨S8x32x16x32, .f32⟩
  | .hbm, ⟨14, _⟩ => ⟨S8x32x512, .f32⟩
  | .hbm, ⟨15, _⟩ => ⟨S16x64x32, .f32⟩
  | .hbm, ⟨16, _⟩ => ⟨S16x32x64, .f32⟩
  | .hbm, ⟨17, _⟩ => ⟨S3x16x64x64, .f32⟩
  | .hbm, ⟨18, _⟩ => ⟨S3x16x64x64, .f32⟩
  | .hbm, ⟨19, _⟩ => ⟨S8x19, .f32⟩
  | .local _ .vmem, ⟨0, _⟩ => ⟨S8x19, .f32⟩
  | .local _ .vmem, ⟨1, _⟩ => ⟨S8x32x33, .f32⟩
  | .local _ .vmem, ⟨2, _⟩ => ⟨S8x32x32, .f32⟩
  | .local _ .vmem, ⟨3, _⟩ => ⟨S8x32x512, .f32⟩
  | .local _ .vmem, ⟨4, _⟩ => ⟨S16x32x64, .f32⟩
  | .local _ .vmem, ⟨5, _⟩ => ⟨S3x16x64x64, .f32⟩
  | .local _ .vmem, ⟨6, _⟩ => ⟨S32x64, .f32⟩
  | .local _ .vmem, ⟨7, _⟩ => ⟨S3x64x64, .f32⟩
  | .local _ .vmem, ⟨8, _⟩ => ⟨S64x19, .f32⟩
  | _, _ => ⟨S8x32x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S8x19 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8x32x33 : Shape := ⟨3, ![8, 32, 33]⟩
abbrev S8x32x32 : Shape := ⟨3, ![8, 32, 32]⟩
abbrev S8x32x32x16 : Shape := ⟨4, ![8, 32, 32, 16]⟩
abbrev S16x2048 : Shape := ⟨2, ![16, 2048]⟩
abbrev S2048 : Shape := ⟨1, ![2048]⟩
abbrev S32x64 : Shape := ⟨2, ![32, 64]⟩
abbrev S64 : Shape := ⟨1, ![64]⟩
abbrev S3x16x4096 : Shape := ⟨3, ![3, 16, 4096]⟩
abbrev S3x4096 : Shape := ⟨2, ![3, 4096]⟩
abbrev S3x64x64 : Shape := ⟨3, ![3, 64, 64]⟩
abbrev S3x64 : Shape := ⟨2, ![3, 64]⟩
abbrev S64x19 : Shape := ⟨2, ![64, 19]⟩
abbrev S19 : Shape := ⟨1, ![19]⟩
abbrev S8x32x1 : Shape := ⟨3, ![8, 32, 1]⟩
abbrev S8x32 : Shape := ⟨2, ![8, 32]⟩
abbrev S8x32x32x2048 : Shape := ⟨4, ![8, 32, 32, 2048]⟩
abbrev S1x1x1x2048 : Shape := ⟨4, ![1, 1, 1, 2048]⟩
abbrev S8x32x32x64x32 : Shape := ⟨5, ![8, 32, 32, 64, 32]⟩
abbrev S8x32x32x1x1 : Shape := ⟨5, ![8, 32, 32, 1, 1]⟩
abbrev S8x32x64 : Shape := ⟨3, ![8, 32, 64]⟩
abbrev S1x1x64 : Shape := ⟨3, ![1, 1, 64]⟩
abbrev S_ : Shape := ⟨0, ![]⟩
abbrev S1x16x4096 : Shape := ⟨3, ![1, 16, 4096]⟩
abbrev S16x4096 : Shape := ⟨2, ![16, 4096]⟩
abbrev S1x4096 : Shape := ⟨2, ![1, 4096]⟩
abbrev S4096 : Shape := ⟨1, ![4096]⟩
abbrev S1x64x64 : Shape := ⟨3, ![1, 64, 64]⟩
abbrev S64x64 : Shape := ⟨2, ![64, 64]⟩
abbrev S1x64 : Shape := ⟨2, ![1, 64]⟩
abbrev S8x32x32x4096 : Shape := ⟨4, ![8, 32, 32, 4096]⟩
abbrev S1x1x1x4096 : Shape := ⟨4, ![1, 1, 1, 4096]⟩
abbrev S8x32x32x64x64 : Shape := ⟨5, ![8, 32, 32, 64, 64]⟩
abbrev S8x64 : Shape := ⟨2, ![8, 64]⟩
abbrev S8x19 : Shape := ⟨2, ![8, 19]⟩
abbrev S1x19 : Shape := ⟨2, ![1, 19]⟩

abbrev nBuf : Space → Nat
  | .hbm => 117
  | .vmem => 0
  | .smem => 0
  | _ => 0

abbrev bufTy : (tb : Table) → Fin (tcTables nBuf tb) → BufTy
  | .hbm, ⟨0, _⟩ => ⟨S8x32x33, .f32⟩
  | .hbm, ⟨1, _⟩ => ⟨S8x32x32, .f32⟩
  | .hbm, ⟨2, _⟩ => ⟨S8x32x32x16, .f32⟩
  | .hbm, ⟨3, _⟩ => ⟨S16x2048, .f32⟩
  | .hbm, ⟨4, _⟩ => ⟨S2048, .f32⟩
  | .hbm, ⟨5, _⟩ => ⟨S32x64, .f32⟩
  | .hbm, ⟨6, _⟩ => ⟨S64, .f32⟩
  | .hbm, ⟨7, _⟩ => ⟨S3x16x4096, .f32⟩
  | .hbm, ⟨8, _⟩ => ⟨S3x4096, .f32⟩
  | .hbm, ⟨9, _⟩ => ⟨S3x64x64, .f32⟩
  | .hbm, ⟨10, _⟩ => ⟨S3x64, .f32⟩
  | .hbm, ⟨11, _⟩ => ⟨S64x19, .f32⟩
  | .hbm, ⟨12, _⟩ => ⟨S19, .f32⟩
  | .hbm, ⟨13, _⟩ => ⟨S8x32x1, .f32⟩
  | .hbm, ⟨14, _⟩ => ⟨S8x32, .f32⟩
  | .hbm, ⟨15, _⟩ => ⟨S8x32x32, .f32⟩
  | .hbm, ⟨16, _⟩ => ⟨S8x32x32x2048, .f32⟩
  | .hbm, ⟨17, _⟩ => ⟨S1x1x1x2048, .f32⟩
  | .hbm, ⟨18, _⟩ => ⟨S8x32x32x2048, .f32⟩
  | .hbm, ⟨19, _⟩ => ⟨S8x32x32x2048, .f32⟩
  | .hbm, ⟨20, _⟩ => ⟨S8x32x32x64x32, .f32⟩
  | .hbm, ⟨21, _⟩ => ⟨S8x32x32x1x1, .f32⟩
  | .hbm, ⟨22, _⟩ => ⟨S8x32x32x64x32, .f32⟩
  | .hbm, ⟨23, _⟩ => ⟨S8x32x32x64x32, .f32⟩
  | .hbm, ⟨24, _⟩ => ⟨S8x32x64, .f32⟩
  | .hbm, ⟨25, _⟩ => ⟨S8x32x64, .f32⟩
  | .hbm, ⟨26, _⟩ => ⟨S8x32x64, .f32⟩
  | .hbm, ⟨27, _⟩ => ⟨S1x1x64, .f32⟩
  | .hbm, ⟨28, _⟩ => ⟨S8x32x64, .f32⟩
  | .hbm, ⟨29, _⟩ => ⟨S8x32x64, .f32⟩
  | .hbm, ⟨30, _⟩ => ⟨S_, .f32⟩
  | .hbm, ⟨31, _⟩ => ⟨S8x32x64, .f32⟩
  | .hbm, ⟨32, _⟩ => ⟨S8x32x64, .f32⟩
  | .hbm, ⟨33, _⟩ => ⟨S1x16x4096, .f32⟩
  | .hbm, ⟨34, _⟩ => ⟨S16x4096, .f32⟩
  | .hbm, ⟨35, _⟩ => ⟨S1x4096, .f32⟩
  | .hbm, ⟨36, _⟩ => ⟨S4096, .f32⟩
  | .hbm, ⟨37, _⟩ => ⟨S1x64x64, .f32⟩
  | .hbm, ⟨38, _⟩ => ⟨S64x64, .f32⟩
  | .hbm, ⟨39, _⟩ => ⟨S1x64, .f32⟩
  | .hbm, ⟨40, _⟩ => ⟨S64, .f32⟩
  | .hbm, ⟨41, _⟩ => ⟨S8x32x32x4096, .f32⟩
  | .hbm, ⟨42, _⟩ => ⟨S1x1x1x4096, .f32⟩
  | .hbm, ⟨43, _⟩ => ⟨S8x32x32x4096, .f32⟩
  | .hbm, ⟨44, _⟩ => ⟨S8x32x32x4096, .f32⟩
  | .hbm, ⟨45, _⟩ => ⟨S8x32x32x64x64, .f32⟩
  | .hbm, ⟨46, _⟩ => ⟨S8x32x32x1x1, .f32⟩
  | .hbm, ⟨47, _⟩ => ⟨S8x32x32x64x64, .f32⟩
  | .hbm, ⟨48, _⟩ => ⟨S8x32x32x64x64, .f32⟩
  | .hbm, ⟨49, _⟩ => ⟨S8x32x64, .f32⟩
  | .hbm, ⟨50, _⟩ => ⟨S8x32x64, .f32⟩
  | .hbm, ⟨51, _⟩ => ⟨S8x32x64, .f32⟩
  | .hbm, ⟨52, _⟩ => ⟨S1x1x64, .f32⟩
  | .hbm, ⟨53, _⟩ => ⟨S8x32x64, .f32⟩
  | .hbm, ⟨54, _⟩ => ⟨S8x32x64, .f32⟩
  | .hbm, ⟨55, _⟩ => ⟨S_, .f32⟩
  | .hbm, ⟨56, _⟩ => ⟨S8x32x64, .f32⟩
  | .hbm, ⟨57, _⟩ => ⟨S8x32x64, .f32⟩
  | .hbm, ⟨58, _⟩ => ⟨S1x16x4096, .f32⟩
  | .hbm, ⟨59, _⟩ => ⟨S16x4096, .f32⟩
  | .hbm, ⟨60, _⟩ => ⟨S1x4096, .f32⟩
  | .hbm, ⟨61, _⟩ => ⟨S4096, .f32⟩
  | .hbm, ⟨62, _⟩ => ⟨S1x64x64, .f32⟩
  | .hbm, ⟨63, _⟩ => ⟨S64x64, .f32⟩
  | .hbm, ⟨64, _⟩ => ⟨S1x64, .f32⟩
  | .hbm, ⟨65, _⟩ => ⟨S64, .f32⟩
  | .hbm, ⟨66, _⟩ => ⟨S8x32x32x4096, .f32⟩
  | .hbm, ⟨67, _⟩ => ⟨S1x1x1x4096, .f32⟩
  | .hbm, ⟨68, _⟩ => ⟨S8x32x32x4096, .f32⟩
  | .hbm, ⟨69, _⟩ => ⟨S8x32x32x4096, .f32⟩
  | .hbm, ⟨70, _⟩ => ⟨S8x32x32x64x64, .f32⟩
  | .hbm, ⟨71, _⟩ => ⟨S8x32x32x1x1, .f32⟩
  | .hbm, ⟨72, _⟩ => ⟨S8x32x32x64x64, .f32⟩
  | .hbm, ⟨73, _⟩ => ⟨S8x32x32x64x64, .f32⟩
  | .hbm, ⟨74, _⟩ => ⟨S8x32x64, .f32⟩
  | .hbm, ⟨75, _⟩ => ⟨S8x32x64, .f32⟩
  | .hbm, ⟨76, _⟩ => ⟨S8x32x64, .f32⟩
  | .hbm, ⟨77, _⟩ => ⟨S1x1x64, .f32⟩
  | .hbm, ⟨78, _⟩ => ⟨S8x32x64, .f32⟩
  | .hbm, ⟨79, _⟩ => ⟨S8x32x64, .f32⟩
  | .hbm, ⟨80, _⟩ => ⟨S_, .f32⟩
  | .hbm, ⟨81, _⟩ => ⟨S8x32x64, .f32⟩
  | .hbm, ⟨82, _⟩ => ⟨S8x32x64, .f32⟩
  | .hbm, ⟨83, _⟩ => ⟨S1x16x4096, .f32⟩
  | .hbm, ⟨84, _⟩ => ⟨S16x4096, .f32⟩
  | .hbm, ⟨85, _⟩ => ⟨S1x4096, .f32⟩
  | .hbm, ⟨86, _⟩ => ⟨S4096, .f32⟩
  | .hbm, ⟨87, _⟩ => ⟨S1x64x64, .f32⟩
  | .hbm, ⟨88, _⟩ => ⟨S64x64, .f32⟩
  | .hbm, ⟨89, _⟩ => ⟨S1x64, .f32⟩
  | .hbm, ⟨90, _⟩ => ⟨S64, .f32⟩
  | .hbm, ⟨91, _⟩ => ⟨S8x32x32x4096, .f32⟩
  | .hbm, ⟨92, _⟩ => ⟨S1x1x1x4096, .f32⟩
  | .hbm, ⟨93, _⟩ => ⟨S8x32x32x4096, .f32⟩
  | .hbm, ⟨94, _⟩ => ⟨S8x32x32x4096, .f32⟩
  | .hbm, ⟨95, _⟩ => ⟨S8x32x32x64x64, .f32⟩
  | .hbm, ⟨96, _⟩ => ⟨S8x32x32x1x1, .f32⟩
  | .hbm, ⟨97, _⟩ => ⟨S8x32x32x64x64, .f32⟩
  | .hbm, ⟨98, _⟩ => ⟨S8x32x32x64x64, .f32⟩
  | .hbm, ⟨99, _⟩ => ⟨S8x32x64, .f32⟩
  | .hbm, ⟨100, _⟩ => ⟨S8x32x64, .f32⟩
  | .hbm, ⟨101, _⟩ => ⟨S8x32x64, .f32⟩
  | .hbm, ⟨102, _⟩ => ⟨S1x1x64, .f32⟩
  | .hbm, ⟨103, _⟩ => ⟨S8x32x64, .f32⟩
  | .hbm, ⟨104, _⟩ => ⟨S8x32x64, .f32⟩
  | .hbm, ⟨105, _⟩ => ⟨S_, .f32⟩
  | .hbm, ⟨106, _⟩ => ⟨S8x32x64, .f32⟩
  | .hbm, ⟨107, _⟩ => ⟨S8x32x64, .f32⟩
  | .hbm, ⟨108, _⟩ => ⟨S8x32x1, .f32⟩
  | .hbm, ⟨109, _⟩ => ⟨S8x32x64, .f32⟩
  | .hbm, ⟨110, _⟩ => ⟨S8x32x64, .f32⟩
  | .hbm, ⟨111, _⟩ => ⟨S_, .f32⟩
  | .hbm, ⟨112, _⟩ => ⟨S8x64, .f32⟩
  | .hbm, ⟨113, _⟩ => ⟨S8x19, .f32⟩
  | .hbm, ⟨114, _⟩ => ⟨S1x19, .f32⟩
  | .hbm, ⟨115, _⟩ => ⟨S8x19, .f32⟩
  | .hbm, ⟨116, _⟩ => ⟨S8x19, .f32⟩
  | _, _ => ⟨S8x32x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_cst : Ref sig .tc := ⟨.hbm, 55, rfl⟩
abbrev main_call1_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call2_cst : Ref sig .tc := ⟨.hbm, 80, rfl⟩
abbrev main_call2_v0 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_call3_cst : Ref sig .tc := ⟨.hbm, 105, rfl⟩
abbrev main_call3_v0 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩

abbrev nD : Nat := 1
abbrev τ : Topo := Topo.v7x

variable {F : FTy → Type} [FloatOps F]
-- ==== Proof.Conv.lean ====
/- One edge-conditioned convolution layer over the extended reals, in the two orders of summation that meet in this
   certificate: the kernel's (first every node's features times the weight of each edge channel, then one sum over the
   pairs of a channel and a neighbour) and the reference's (first every edge's own matrix, then one sum over the
   neighbours and their features). They agree when the data are finite, and then the layer's result is finite too. -/
module

public import Idealize.ShloMosaic.PureOps.Ideal
public import Idealize.ShloMosaic.PureOps.Ideal.Laws
public import Idealize.ShloMosaic.Lib.Pointwise

@[expose] public section

noncomputable section

namespace Cert.Conv

open Idealize.ShloMosaic

/-- An extended real that is a real number. -/
def IsReal (x : EReal) : Prop := ∃ r : ℝ, (r : EReal) = x

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The channel of position `k` in the flattened axis of (channel, neighbour) pairs. -/
abbrev chan (k : Fin 512) : Fin 16 := ⟨k.1 / 32, by omega⟩

/-- The neighbour of position `k` in that axis. -/
abbrev nbr (k : Fin 512) : Fin 32 := ⟨k.1 % 32, by omega⟩

variable {K : ℕ}

/-- What node `n` of graph `b` gathers in output feature `c`, in the kernel's order. -/
def gather (A : Fin 8 → Fin 32 → Fin 32 → EReal) (E : Fin 8 → Fin 32 → Fin 32 → Fin 16 → EReal)
    (W : Fin 16 → Fin K → Fin 64 → EReal) (H : Fin 8 → Fin 32 → Fin K → EReal) (b : Fin 8) (n : Fin 32) (c : Fin 64) :
    EReal :=
  ∑ k : Fin 512, (A b n (nbr k) * E b n (nbr k) (chan k)) * ∑ f : Fin K, H b (nbr k) f * W (chan k) f c

/-- What node `n` of graph `b` gathers in output feature `c`, in the reference's order. -/
def gatherRef (A : Fin 8 → Fin 32 → Fin 32 → EReal) (E : Fin 8 → Fin 32 → Fin 32 → Fin 16 → EReal)
    (W : Fin 16 → Fin K → Fin 64 → EReal) (H : Fin 8 → Fin 32 → Fin K → EReal) (b : Fin 8) (n : Fin 32) (c : Fin 64) :
    EReal :=
  ∑ f : Fin K, ∑ i : Fin 32, ((∑ s : Fin 16, E b n i s * W s f c) * A b n i) * H b i f

/-- A node's own features through the root weights. -/
def own (R : Fin K → Fin 64 → EReal) (H : Fin 8 → Fin 32 → Fin K → EReal) (b : Fin 8) (n : Fin 32) (c : Fin 64) : EReal :=
  ∑ f : Fin K, H b n f * R f c

/-- One layer in the kernel's order. -/
def layer (A : Fin 8 → Fin 32 → Fin 32 → EReal) (E : Fin 8 → Fin 32 → Fin 32 → Fin 16 → EReal)
    (W : Fin 16 → Fin K → Fin 64 → EReal) (R : Fin K → Fin 64 → EReal) (H : Fin 8 → Fin 32 → Fin K → EReal)
    (b : Fin 8) (n : Fin 32) (c : Fin 64) : EReal :=
  max (gather A E W H b n c + own R H b n c) 0

/-- One layer in the reference's order. -/
def layerRef (A : Fin 8 → Fin 32 → Fin 32 → EReal) (E : Fin 8 → Fin 32 → Fin 32 → Fin 16 → EReal)
    (W : Fin 16 → Fin K → Fin 64 → EReal) (R : Fin K → Fin 64 → EReal) (H : Fin 8 → Fin 32 → Fin K → EReal)
    (b : Fin 8) (n : Fin 32) (c : Fin 64) : EReal :=
  max (gatherRef A E W H b n c + own R H b n c) 0

/-- The identity over the reals: one product summed over channels, neighbours and features in either nesting. -/
theorem real_gather (a : Fin 32 → ℝ) (e : Fin 32 → Fin 16 → ℝ) (w : Fin 16 → Fin K → ℝ) (h : Fin 32 → Fin K → ℝ) :
    ∑ s : Fin 16, ∑ i : Fin 32, (a i * e i s) * ∑ f : Fin K, h i f * w s f
      = ∑ f : Fin K, ∑ i : Fin 32, ((∑ s : Fin 16, e i s * w s f) * a i) * h i f := by
  simp only [Finset.mul_sum, Finset.sum_mul]
  rw [Finset.sum_comm, Finset.sum_comm (s := (Finset.univ : Finset (Fin K)))]
  refine Finset.sum_congr rfl fun i _ => ?_
  rw [Finset.sum_comm]
  exact Finset.sum_congr rfl fun f _ => Finset.sum_congr rfl fun s _ => by ring

/-- On finite data a node gathers the same in both orders. -/
theorem gather_eq {A : Fin 8 → Fin 32 → Fin 32 → EReal} {E : Fin 8 → Fin 32 → Fin 32 → Fin 16 → EReal}
    {W : Fin 16 → Fin K → Fin 64 → EReal} {H : Fin 8 → Fin 32 → Fin K → EReal}
    (hA : ∀ b n i, IsReal (A b n i)) (hE : ∀ b n i s, IsReal (E b n i s)) (hW : ∀ s f c, IsReal (W s f c))
    (hH : ∀ b n f, IsReal (H b n f)) (b : Fin 8) (n : Fin 32) (c : Fin 64) :
    gather A E W H b n c = gatherRef A E W H b n c := by
  choose a ha using hA
  choose e he using hE
  choose w hw using hW
  choose h hh using hH
  have hL : gather A E W H b n c
      = ∑ s : Fin 16, ∑ i : Fin 32, (A b n i * E b n i s) * ∑ f : Fin K, H b i f * W s f c := by
    unfold gather
    rw [Fin.sum_univ_tiles 16 32 rfl]
    refine Finset.sum_congr rfl fun s _ => Finset.sum_congr rfl fun i _ => ?_
    have hc : chan ⟨s.1 * 32 + i.1, by omega⟩ = s := Fin.ext (by show (s.1 * 32 + i.1) / 32 = s.1; omega)
    have hn : nbr ⟨s.1 * 32 + i.1, by omega⟩ = i := Fin.ext (by show (s.1 * 32 + i.1) % 32 = i.1; omega)
    rw [hc, hn]
  rw [hL]
  unfold gatherRef
  simp only [← ha, ← he, ← hw, ← hh, ← EReal.coe_mul, ← coe_sum]
  exact congrArg _ (real_gather (a b n) (e b n) (fun s f => w s f c) (h b))

/-- On finite data (the root weights need not be) the two orders give the same layer. -/
theorem layer_eq {A : Fin 8 → Fin 32 → Fin 32 → EReal} {E : Fin 8 → Fin 32 → Fin 32 → Fin 16 → EReal}
    {W : Fin 16 → Fin K → Fin 64 → EReal} {H : Fin 8 → Fin 32 → Fin K → EReal}
    (hA : ∀ b n i, IsReal (A b n i)) (hE : ∀ b n i s, IsReal (E b n i s)) (hW : ∀ s f c, IsReal (W s f c))
    (hH : ∀ b n f, IsReal (H b n f)) (R : Fin K → Fin 64 → EReal) :
    layer A E W R H = layerRef A E W R H := by
  funext b n c
  unfold layer layerRef
  rw [gather_eq hA hE hW hH]

/-- On finite data with finite root weights the layer's result is finite. -/
theorem layerRef_isReal {A : Fin 8 → Fin 32 → Fin 32 → EReal} {E : Fin 8 → Fin 32 → Fin 32 → Fin 16 → EReal}
    {W : Fin 16 → Fin K → Fin 64 → EReal} {R : Fin K → Fin 64 → EReal} {H : Fin 8 → Fin 32 → Fin K → EReal}
    (hA : ∀ b n i, IsReal (A b n i)) (hE : ∀ b n i s, IsReal (E b n i s)) (hW : ∀ s f c, IsReal (W s f c))
    (hR : ∀ f c, IsReal (R f c)) (hH : ∀ b n f, IsReal (H b n f)) (b : Fin 8) (n : Fin 32) (c : Fin 64) :
    IsReal (layerRef A E W R H b n c) := by
  refine IsReal.max (IsReal.add ?_ ?_) .zero
  · exact .sum _ _ fun f => .sum _ _ fun i => ((IsReal.sum _ _ fun s => (hE b n i s).mul (hW s f c)).mul (hA b n i)).mul (hH b i f)
  · exact .sum _ _ fun f => (hH b n f).mul (hR f c)

/-! ## The arguments' entries by what they stand for -/

/-- The column of output feature `u` and input feature `f` in the first layer's weights … -/
def col0 (u : Fin 64) (f : Fin 32) : Fin 2048 := ⟨u.val * 32 + f.val, by omega⟩

/-- … and in a later layer's. -/
def col1 (u : Fin 64) (f : Fin 64) : Fin 4096 := ⟨u.val * 64 + f.val, by omega⟩

/-- Node features: the argument without its last column, the mask. -/
def dX (x : (⟨3, ![8, 32, 33]⟩ : Shape).Idx → EReal) (b : Fin 8) (n f : Fin 32) : EReal := x (ix3 b n (⟨f.val, by omega⟩ : Fin 33))

/-- Adjacency. -/
def dA (x : (⟨3, ![8, 32, 32]⟩ : Shape).Idx → EReal) (b : Fin 8) (n i : Fin 32) : EReal := x (ix3 b n i)

/-- Edge features. -/
def dE (x : (⟨4, ![8, 32, 32, 16]⟩ : Shape).Idx → EReal) (b : Fin 8) (n i : Fin 32) (s : Fin 16) : EReal := x (ix4 b n i s)

/-- The first layer's weights. -/
def dW0 (x : (⟨2, ![16, 2048]⟩ : Shape).Idx → EReal) (s : Fin 16) (f : Fin 32) (u : Fin 64) : EReal := x (ix2 s (col0 u f))

/-- The first layer's root weights. -/
def dR0 (x : (⟨2, ![32, 64]⟩ : Shape).Idx → EReal) (f : Fin 32) (u : Fin 64) : EReal := x (ix2 f u)

/-- The later layers' weights. -/
def dW (x : (⟨3, ![3, 16, 4096]⟩ : Shape).Idx → EReal) (l : Fin 3) (s : Fin 16) (f u : Fin 64) : EReal := x (ix3 l s (col1 u f))

/-- The later layers' root weights. -/
def dR (x : (⟨3, ![3, 64, 64]⟩ : Shape).Idx → EReal) (l : Fin 3) (f u : Fin 64) : EReal := x (ix3 l f u)

/-- The read-out's weights. -/
def dD (x : (⟨2, ![64, 19]⟩ : Shape).Idx → EReal) (u : Fin 64) (o : Fin 19) : EReal := x (ix2 u o)

end Cert.Conv

end
-- ==== Proof.Block.lean ====
/- What one layer of the kernel computes: from the eight edge blocks (adjacency times edge features, one 32 x 512 block
   per graph), the sixteen products of the node features with the channels' weights, and the product with the root
   weights, the 256 x 64 node features of the next layer; and the read-out of the last one. Each is a function of
   whole vectors, read here at an index. -/
module

public import proofs.«01_k».proof.Proof.Gen.KernelIdeal.Value
public import proofs.«01_k».proof.Proof.Conv
public import Idealize.ShloMosaic.Lib.Pointwise
public import Idealize.ShloMosaic.Lib.VecWindow

@[expose] public section

set_option maxRecDepth 16384

noncomputable section

namespace Cert.Block

open Cert.KernelIdeal Cert.KernelIdeal.Gen Idealize.ShloMosaic

section Defs

variable {F : FTy → Type} [FloatOps F]

theorem slices_rows (b : Fin 8) : S256x64.Slices ![32 * b.val, 0] S32x64 := by
  revert b; decide

/-- The 32 rows of graph `b` in a 256-row array. -/
def rows (b : Fin 8) (v : FVec F S256x64 .f32) : FVec F S32x64 .f32 :=
  extractStridedSlice S32x64 ![32 * b.val, 0] v (slices_rows b)

/-- Graph `b`'s sixteen row blocks, one per edge channel, one below the other. -/
def stack16 (b : Fin 8) (wh : Fin 16 → FVec F S256x64 .f32) : FVec F S512x64 .f32 :=
  concatenate S512x64 0 (List.ofFn fun s : Fin 16 => ⟨S32x64, rows b (wh s)⟩)
    concatenates_S32x64_S32x64_S32x64_S32x64_S32x64_S32x64_S32x64_S32x64_S32x64_S32x64_S32x64_S32x64_S32x64_S32x64_S32x64_S32x64_S512x64_d0

/-- Graph `b`'s sum over channels and neighbours. -/
def gatherV (ae : FVec F S32x512 .f32) (b : Fin 8) (wh : Fin 16 → FVec F S256x64 .f32) : FVec F S32x64 .f32 :=
  matmul dot_S32x512_S512x64_S32x64_1_0_0_1_n_n none ae (stack16 b wh) (constant S32x64 .f32 0x00000000#32)

/-- Graph `b`'s new node features. -/
def batch (ae : FVec F S32x512 .f32) (b : Fin 8) (wh : Fin 16 → FVec F S256x64 .f32) (rooted : FVec F S256x64 .f32) :
    FVec F S32x64 .f32 :=
  maximumf (addf (gatherV ae b wh) (rows b rooted)) (broadcast S32x64 (Scalar.ofBits .f32 0x00000000#32 : F .f32))

/-- Eight graphs' node features, one below the other. -/
def stack8 (f : Fin 8 → FVec F S32x64 .f32) : FVec F S256x64 .f32 :=
  concatenate S256x64 0 (List.ofFn fun b : Fin 8 => ⟨S32x64, f b⟩)
    concatenates_S32x64_S32x64_S32x64_S32x64_S32x64_S32x64_S32x64_S32x64_S256x64_d0

/-- One layer's new node features. -/
def layerV (ae : Fin 8 → FVec F S32x512 .f32) (wh : Fin 16 → FVec F S256x64 .f32) (rooted : FVec F S256x64 .f32) :
    FVec F S256x64 .f32 :=
  stack8 fun b => batch (ae b) b wh rooted

/-- The eight graphs' node features summed over the nodes, one row per graph. -/
def pool (h : FVec F S256x64 .f32) : FVec F S8x64 .f32 :=
  concatenate S8x64 0 (List.ofFn fun b : Fin 8 => ⟨S1x64, shapeCast S1x64
      (multiReduction .add [0] S64 (rows b h) 0x00000000#32 reduces_S32x64_S64 (.inl rfl) rfl) shapeCasts_S64_S1x64⟩)
    concatenates_S1x64_S1x64_S1x64_S1x64_S1x64_S1x64_S1x64_S1x64_S8x64_d0

/-- The read-out: the pooled features times the last weights. -/
def head (h : FVec F S256x64 .f32) (w : FVec F S64x19 .f32) : FVec F S8x19 .f32 :=
  matmul dot_S8x64_S64x19_S8x19_1_0_0_1_n_n none (pool h) w (constant S8x19 .f32 0x00000000#32)

/-- A graph's edge block: the adjacency repeated once per channel, times the edge features. -/
def edge (a : FVec F S1x32x32 .f32) (e : FVec F S1x32x512 .f32) : FVec F S32x512 .f32 :=
  mulf (concatenate S32x512 1 (List.ofFn fun _ : Fin 16 => ⟨S32x32, shapeCast S32x32 a shapeCasts_S1x32x32_S32x32⟩)
      concatenates_S32x32_S32x32_S32x32_S32x32_S32x32_S32x32_S32x32_S32x32_S32x32_S32x32_S32x32_S32x32_S32x32_S32x32_S32x32_S32x32_S32x512_d1)
    (shapeCast S32x512 e shapeCasts_S1x32x512_S32x512)

/-- The first layer's node features: the eight graphs' inputs, one below the other. -/
def feat (x : Fin 8 → FVec F S1x32x32 .f32) : FVec F S256x32 .f32 :=
  concatenate S256x32 0 (List.ofFn fun b : Fin 8 => ⟨S32x32, shapeCast S32x32 (x b) shapeCasts_S1x32x32_S32x32⟩)
    concatenates_S32x32_S32x32_S32x32_S32x32_S32x32_S32x32_S32x32_S32x32_S256x32_d0

/-- Node features times a weight matrix, in the first layer … -/
def mul0 (h : FVec F S256x32 .f32) (w : FVec F S32x64 .f32) : FVec F S256x64 .f32 :=
  matmul dot_S256x32_S32x64_S256x64_1_0_0_1_n_n none h w (constant S256x64 .f32 0x00000000#32)

/-- … and in the later ones. -/
def mul1 (h : FVec F S256x64 .f32) (w : FVec F S64x64 .f32) : FVec F S256x64 .f32 :=
  matmul dot_S256x64_S64x64_S256x64_1_0_0_1_n_n none h w (constant S256x64 .f32 0x00000000#32)

end Defs

/-! ## Read at an index -/

/-- The row of node `n` of graph `b` among the 256 rows. -/
def row (b : Fin 8) (n : Fin 32) : Fin 256 := ⟨32 * b.val + n.val, by omega⟩

theorem rows_apply (b : Fin 8) (v : FVec Ideal S256x64 .f32) (n : Fin 32) (c : Fin 64) :
    rows b v (ix2 n c) = v (ix2 (row b n) c) := by
  unfold rows row
  pointwise

theorem stack16_apply (b : Fin 8) (wh : Fin 16 → FVec Ideal S256x64 .f32) (k : Fin 512) (c : Fin 64) :
    stack16 b wh (ix2 k c) = wh (Conv.chan k) (ix2 (row b (Conv.nbr k)) c) := by
  rw [← rows_apply b (wh (Conv.chan k)) (Conv.nbr k) c]
  exact concatenate_ofFn_apply (t := S512x64) 0 (fun s => rows b (wh s)) _ rfl 32 rfl (ix2 k c) (Conv.chan k) rfl (ix2 (Conv.nbr k) c) rfl
    (by intro a ha; fin_cases a
        · exact absurd rfl ha
        · rfl)

theorem stack8_apply (f : Fin 8 → FVec Ideal S32x64 .f32) (b : Fin 8) (n : Fin 32) (c : Fin 64) :
    stack8 f (ix2 (row b n) c) = f b (ix2 n c) :=
  concatenate_ofFn_apply (t := S256x64) 0 f _ rfl 32 rfl (ix2 (row b n) c) b (by show (32 * b.val + n.val) / 32 = b.val; omega)
    (ix2 n c) (by show n.val = (32 * b.val + n.val) % 32; omega)
    (by intro a ha; fin_cases a
        · exact absurd rfl ha
        · rfl)

theorem feat_apply (x : Fin 8 → FVec Ideal S1x32x32 .f32) (b : Fin 8) (n : Fin 32) (f : Fin 32) :
    feat x (ix2 (row b n) f) = x b (ix3 0 n f) := by
  refine (concatenate_ofFn_apply (t := S256x32) 0 (fun b => shapeCast S32x32 (x b) shapeCasts_S1x32x32_S32x32) _ rfl 32 rfl (ix2 (row b n) f) b
    (by show (32 * b.val + n.val) / 32 = b.val; omega)
    (ix2 n f) (by show n.val = (32 * b.val + n.val) % 32; omega)
    (by intro a ha; fin_cases a
        · exact absurd rfl ha
        · rfl)).trans ?_
  pointwise

theorem edge_apply (a : FVec Ideal S1x32x32 .f32) (e : FVec Ideal S1x32x512 .f32) (n : Fin 32) (k : Fin 512) :
    edge a e (ix2 n k) = a (ix3 0 n (Conv.nbr k)) * e (ix3 0 n k) := by
  have h := concatenate_ofFn_apply 1 (fun _ : Fin 16 => shapeCast S32x32 a shapeCasts_S1x32x32_S32x32)
    concatenates_S32x32_S32x32_S32x32_S32x32_S32x32_S32x32_S32x32_S32x32_S32x32_S32x32_S32x32_S32x32_S32x32_S32x32_S32x32_S32x32_S32x512_d1
    rfl 32 rfl (ix2 n k) (Conv.chan k) rfl (ix2 n (Conv.nbr k)) rfl
    (by intro b hb; fin_cases b
        · rfl
        · exact absurd rfl hb)
  unfold edge
  show _ * _ = _
  rw [h]
  pointwise

theorem mul0_apply (h : FVec Ideal S256x32 .f32) (w : FVec Ideal S32x64 .f32) (r : Fin 256) (c : Fin 64) :
    mul0 h w (ix2 r c) = ∑ f : Fin 32, h (ix2 r f) * w (ix2 f c) := by
  pointwise [mul0]

theorem mul1_apply (h : FVec Ideal S256x64 .f32) (w : FVec Ideal S64x64 .f32) (r : Fin 256) (c : Fin 64) :
    mul1 h w (ix2 r c) = ∑ f : Fin 64, h (ix2 r f) * w (ix2 f c) := by
  pointwise [mul1]

theorem gatherV_apply (ae : FVec Ideal S32x512 .f32) (b : Fin 8) (wh : Fin 16 → FVec Ideal S256x64 .f32) (n : Fin 32) (c : Fin 64) :
    gatherV ae b wh (ix2 n c) = ∑ k : Fin 512, ae (ix2 n k) * wh (Conv.chan k) (ix2 (row b (Conv.nbr k)) c) := by
  simp only [← stack16_apply]
  pointwise [gatherV]

theorem layerV_apply (ae : Fin 8 → FVec Ideal S32x512 .f32) (wh : Fin 16 → FVec Ideal S256x64 .f32) (rooted : FVec Ideal S256x64 .f32)
    (b : Fin 8) (n : Fin 32) (c : Fin 64) :
    layerV ae wh rooted (ix2 (row b n) c)
      = max ((∑ k : Fin 512, ae b (ix2 n k) * wh (Conv.chan k) (ix2 (row b (Conv.nbr k)) c)) + rooted (ix2 (row b n) c)) 0 := by
  unfold layerV
  rw [stack8_apply, ← rows_apply b rooted n c, ← gatherV_apply]
  pointwise [batch]

theorem pool_apply (h : FVec Ideal S256x64 .f32) (b : Fin 8) (c : Fin 64) :
    pool h (ix2 b c) = ∑ n : Fin 32, h (ix2 (row b n) c) := by
  refine (concatenate_ofFn_apply (t := S8x64) 0 (fun b : Fin 8 => shapeCast S1x64
      (multiReduction .add [0] S64 (rows b h) 0x00000000#32 reduces_S32x64_S64 (.inl rfl) rfl) shapeCasts_S64_S1x64) _ rfl 1 rfl
    (ix2 b c) b (Nat.div_one _) (ix2 0 c) (by show 0 = b.val % 1; omega)
    (by intro a ha; fin_cases a
        · exact absurd rfl ha
        · rfl)).trans ?_
  simp only [← rows_apply]
  pointwise

theorem head_apply (h : FVec Ideal S256x64 .f32) (w : FVec Ideal S64x19 .f32) (b : Fin 8) (o : Fin 19) :
    head h w (ix2 b o) = ∑ c : Fin 64, (∑ n : Fin 32, h (ix2 (row b n) c)) * w (ix2 c o) := by
  simp only [← pool_apply]
  pointwise [head]

end Cert.Block
-- ==== Proof.Body.lean ====
/- The kernel body's own values, as it runs: what its loads read from the arrays copied into its scratch buffers, and each
   layer's node features as the layer function of `Block` over the layer before and those loads. -/
module

public import proofs.«01_k».proof.Proof.Block

@[expose] public section

set_option maxRecDepth 16384

noncomputable section

namespace Cert.Body

open Cert.KernelIdeal Cert.KernelIdeal.Gen Cert.Block Idealize.ShloMosaic Idealize.ShloMosaic.TcCoe

/-- A load of a box from a buffer that one copy filled whole reads the copied array at the box's places. -/
theorem readCov_whole_apply {Val : EltTy → Type} [∀ e, Nonempty (Val e)] {sg : RefSig} {κ : Kind} {sp : Space} {S : Shape} {e : EltTy}
    (v : View sg κ sp S e) (w : S.Idx → Val e) (r : Rect S) (x : r.shape.Idx) :
    v.readCov [(⟨Rect.whole S, w⟩ : View.Piece Val S e)] r.toLoadRect x = w (r.emb x) := by
  rw [View.readCov_eq_canon_ld _ _ _ (fun y => ⟨_, List.mem_singleton_self _, by
    show y ∈ (Rect.whole S).set; rw [Rect.set_whole]; exact Finset.mem_univ y⟩)]
  exact congrFun (View.canon_unit_zero (S := S) (off := fun _ => 0) rfl (fun a => (Nat.zero_add _).le) w) (r.emb x)

section Loads

variable {F : FTy → Type} [FloatOps F]

theorem inbX (b : Fin 8) : ∀ a, (![b.val, 0, 0] : Fin 3 → Nat) a + S1x32x32.size a ≤ S8x32x33.size a := by
  revert b; decide
theorem inbA (b : Fin 8) : ∀ a, (![b.val, 0, 0] : Fin 3 → Nat) a + S1x32x32.size a ≤ S8x32x32.size a := by
  revert b; decide
theorem inbE (b : Fin 8) : ∀ a, (![b.val, 0, 0] : Fin 3 → Nat) a + S1x32x512.size a ≤ S8x32x512.size a := by
  revert b; decide
theorem inbW0 (s : Fin 16) : ∀ a, (![s.val, 0, 0] : Fin 3 → Nat) a + S1x32x64.size a ≤ S16x32x64.size a := by
  revert s; decide
theorem inbW (l : Fin 3) (s : Fin 16) : ∀ a, (![l.val, s.val, 0, 0] : Fin 4 → Nat) a + S1x1x64x64.size a ≤ S3x16x64x64.size a := by
  revert l s; decide
theorem inbR (l : Fin 3) : ∀ a, (![l.val, 0, 0] : Fin 3 → Nat) a + S1x64x64.size a ≤ S3x64x64.size a := by
  revert l; decide

/-- The load of graph `b`'s node features. -/
def ldX (c : Dev nD) (m : Memref sig .tc .vmem S8x32x33 .f32) (f : HbBuf0 (F := F) c hbM0_0) (b : Fin 8) : FVec F S1x32x32 .f32 :=
  m.view.readCov (Val := Elt F) [⟨Rect.whole S8x32x33, kernelRun0_A.sl.dma0 c f⟩] (Rect.unit (s := S8x32x33) ![b.val, 0, 0] S1x32x32.size (inbX b)).toLoadRect

/-- The load of graph `b`'s adjacency. -/
def ldA (c : Dev nD) (m : Memref sig .tc .vmem S8x32x32 .f32) (f : HbBuf0 (F := F) c hbM0_1) (b : Fin 8) : FVec F S1x32x32 .f32 :=
  m.view.readCov (Val := Elt F) [⟨Rect.whole S8x32x32, kernelRun0_A.sl.dma0_1 c f⟩] (Rect.unit (s := S8x32x32) ![b.val, 0, 0] S1x32x32.size (inbA b)).toLoadRect

/-- The load of graph `b`'s edge features, channel by channel. -/
def ldE (c : Dev nD) (m : Memref sig .tc .vmem S8x32x512 .f32) (f : HbBuf0 (F := F) c hbM0_2) (b : Fin 8) : FVec F S1x32x512 .f32 :=
  m.view.readCov (Val := Elt F) [⟨Rect.whole S8x32x512, kernelRun0_A.sl.dma0_2 c f⟩] (Rect.unit (s := S8x32x512) ![b.val, 0, 0] S1x32x512.size (inbE b)).toLoadRect

/-- Channel `s`'s weights in the first layer. -/
def ldW0 (c : Dev nD) (m : Memref sig .tc .vmem S16x32x64 .f32) (f : HbBuf0 (F := F) c hbM0_3) (s : Fin 16) : FVec F S32x64 .f32 :=
  shapeCast S32x64 (s := S1x32x64)
    (m.view.readCov (Val := Elt F) [⟨Rect.whole S16x32x64, kernelRun0_A.sl.dma0_3 c f⟩] (Rect.unit (s := S16x32x64) ![s.val, 0, 0] S1x32x64.size (inbW0 s)).toLoadRect)
    shapeCasts_S1x32x64_S32x64

/-- Channel `s`'s weights in later layer `l`. -/
def ldW (c : Dev nD) (m : Memref sig .tc .vmem S3x16x64x64 .f32) (f : HbBuf0 (F := F) c hbM0_4) (l : Fin 3) (s : Fin 16) : FVec F S64x64 .f32 :=
  shapeCast S64x64 (s := S1x1x64x64)
    (m.view.readCov (Val := Elt F) [⟨Rect.whole S3x16x64x64, kernelRun0_A.sl.dma0_4 c f⟩] (Rect.unit (s := S3x16x64x64) ![l.val, s.val, 0, 0] S1x1x64x64.size (inbW l s)).toLoadRect)
    shapeCasts_S1x1x64x64_S64x64

/-- The first layer's root weights. -/
def ldR0 (c : Dev nD) (m : Memref sig .tc .vmem S32x64 .f32) (f : HbBuf0 (F := F) c hbM0_5) : FVec F S32x64 .f32 :=
  m.view.readCov (Val := Elt F) [⟨Rect.whole S32x64, kernelRun0_A.sl.dma0_5 c f⟩] (Rect.unit (s := S32x64) ![0, 0] S32x64.size inb_S32x64_S32x64_0_0).toLoadRect

/-- Later layer `l`'s root weights. -/
def ldR (c : Dev nD) (m : Memref sig .tc .vmem S3x64x64 .f32) (f : HbBuf0 (F := F) c hbM0_6) (l : Fin 3) : FVec F S64x64 .f32 :=
  shapeCast S64x64 (s := S1x64x64)
    (m.view.readCov (Val := Elt F) [⟨Rect.whole S3x64x64, kernelRun0_A.sl.dma0_6 c f⟩] (Rect.unit (s := S3x64x64) ![l.val, 0, 0] S1x64x64.size (inbR l)).toLoadRect)
    shapeCasts_S1x64x64_S64x64

/-- The read-out's weights. -/
def ldD (c : Dev nD) (m : Memref sig .tc .vmem S64x19 .f32) (f : HbBuf0 (F := F) c hbM0_7) : FVec F S64x19 .f32 :=
  m.view.readCov (Val := Elt F) [⟨Rect.whole S64x19, kernelRun0_A.sl.dma0_7 c f⟩] (Rect.unit (s := S64x19) ![0, 0] S64x19.size inb_S64x19_S64x19_0_0).toLoadRect

end Loads

section Layers

variable {F : FTy → Type} [FloatOps F] (c : Dev nD)
variable (arg9 : Memref sig .tc .vmem S8x32x33 .f32)
  (arg10 : Memref sig .tc .vmem S8x32x32 .f32)
  (arg11 : Memref sig .tc .vmem S8x32x512 .f32)
  (arg12 : Memref sig .tc .vmem S16x32x64 .f32)
  (arg13 : Memref sig .tc .vmem S3x16x64x64 .f32)
  (arg14 : Memref sig .tc .vmem S32x64 .f32)
  (arg15 : Memref sig .tc .vmem S3x64x64 .f32)
  (arg16 : Memref sig .tc .vmem S64x19 .f32)
  (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7)

/-- The node features after the first layer. -/
theorem layer0 : kernelRun0_A.sl.r_67 c arg9 arg10 arg11 arg12 arg14 fh0 fh1 fh2 fh3 fh5
    = layerV (fun b => edge (ldA c arg10 fh1 b) (ldE c arg11 fh2 b))
        (fun s => mul0 (feat (ldX c arg9 fh0)) (ldW0 c arg12 fh3 s)) (mul0 (feat (ldX c arg9 fh0)) (ldR0 c arg14 fh5)) := rfl

/-- The node features after the second layer. -/
theorem layer1 : kernelRun0_A.sl.r_131 c arg9 arg10 arg11 arg12 arg13 arg14 arg15 fh0 fh1 fh2 fh3 fh4 fh5 fh6
    = layerV (fun b => edge (ldA c arg10 fh1 b) (ldE c arg11 fh2 b))
        (fun s => mul1 (kernelRun0_A.sl.r_67 c arg9 arg10 arg11 arg12 arg14 fh0 fh1 fh2 fh3 fh5) (ldW c arg13 fh4 0 s))
        (mul1 (kernelRun0_A.sl.r_67 c arg9 arg10 arg11 arg12 arg14 fh0 fh1 fh2 fh3 fh5) (ldR c arg15 fh6 0)) := rfl

/-- The node features after the third layer. -/
theorem layer2 : kernelRun0_A.sl.r_195 c arg9 arg10 arg11 arg12 arg13 arg14 arg15 fh0 fh1 fh2 fh3 fh4 fh5 fh6
    = layerV (fun b => edge (ldA c arg10 fh1 b) (ldE c arg11 fh2 b))
        (fun s => mul1 (kernelRun0_A.sl.r_131 c arg9 arg10 arg11 arg12 arg13 arg14 arg15 fh0 fh1 fh2 fh3 fh4 fh5 fh6) (ldW c arg13 fh4 1 s))
        (mul1 (kernelRun0_A.sl.r_131 c arg9 arg10 arg11 arg12 arg13 arg14 arg15 fh0 fh1 fh2 fh3 fh4 fh5 fh6) (ldR c arg15 fh6 1)) := rfl

/-- What the body stores: the read-out of the node features after the last layer. -/
theorem out (arg8 : Memref sig .tc .vmem S8x19 .f32) (harg8 : arg8.IsWhole) (h9 : arg9.IsWhole) (h10 : arg10.IsWhole) (h11 : arg11.IsWhole) (h12 : arg12.IsWhole) (h13 : arg13.IsWhole) (h14 : arg14.IsWhole) (h15 : arg15.IsWhole) (h16 : arg16.IsWhole) :
    out0_A_0 c arg8 harg8 arg9 h9 arg10 h10 arg11 h11 arg12 h12 arg13 h13 arg14 h14 arg15 h15 arg16 h16 fh0 fh1 fh2 fh3 fh4 fh5 fh6 fh7
    = head (layerV (fun b => edge (ldA c arg10 fh1 b) (ldE c arg11 fh2 b))
        (fun s => mul1 (kernelRun0_A.sl.r_195 c arg9 arg10 arg11 arg12 arg13 arg14 arg15 fh0 fh1 fh2 fh3 fh4 fh5 fh6) (ldW c arg13 fh4 2 s))
        (mul1 (kernelRun0_A.sl.r_195 c arg9 arg10 arg11 arg12 arg13 arg14 arg15 fh0 fh1 fh2 fh3 fh4 fh5 fh6) (ldR c arg15 fh6 2))) (ldD c arg16 fh7) := by
  unfold out0_A_0
  rw [View.read_writes_junk_eq_canon]
  exact View.canon_unit_zero (S := S8x19) (off := ![0, 0]) (by decide) inb_S8x19_S8x19_0_0 _

end Layers

section Read

variable (c : Dev nD)

theorem dma0_apply (f : HbBuf0 (F := Ideal) c hbM0_0) (i : S8x32x33.Idx) : kernelRun0_A.sl.dma0 c f i = f i := rfl
theorem dma1_apply (f : HbBuf0 (F := Ideal) c hbM0_1) (i : S8x32x32.Idx) : kernelRun0_A.sl.dma0_1 c f i = f i := rfl
theorem dma2_apply (f : HbBuf0 (F := Ideal) c hbM0_2) (i : S8x32x512.Idx) : kernelRun0_A.sl.dma0_2 c f i = f i := rfl
theorem dma3_apply (f : HbBuf0 (F := Ideal) c hbM0_3) (i : S16x32x64.Idx) : kernelRun0_A.sl.dma0_3 c f i = f i := rfl
theorem dma4_apply (f : HbBuf0 (F := Ideal) c hbM0_4) (i : S3x16x64x64.Idx) : kernelRun0_A.sl.dma0_4 c f i = f i := rfl
theorem dma5_apply (f : HbBuf0 (F := Ideal) c hbM0_5) (i : S32x64.Idx) : kernelRun0_A.sl.dma0_5 c f i = f i := rfl
theorem dma6_apply (f : HbBuf0 (F := Ideal) c hbM0_6) (i : S3x64x64.Idx) : kernelRun0_A.sl.dma0_6 c f i = f i := rfl
theorem dma7_apply (f : HbBuf0 (F := Ideal) c hbM0_7) (i : S64x19.Idx) : kernelRun0_A.sl.dma0_7 c f i = f i := rfl

theorem ldX_apply (m : Memref sig .tc .vmem S8x32x33 .f32) (f : HbBuf0 (F := Ideal) c hbM0_0) (b : Fin 8) (n : Fin 32) (k : Fin 32) :
    ldX c m f b (ix3 0 n k) = f (ix3 b n (⟨k.val, by omega⟩ : Fin 33)) := by
  unfold ldX
  rw [readCov_whole_apply, dma0_apply]
  exact congrArg f (funext fun a => Fin.ext (by fin_cases a <;> simp [Rect.unit, Rect.emb, ix3]))

theorem ldA_apply (m : Memref sig .tc .vmem S8x32x32 .f32) (f : HbBuf0 (F := Ideal) c hbM0_1) (b : Fin 8) (n : Fin 32) (k : Fin 32) :
    ldA c m f b (ix3 0 n k) = f (ix3 b n k) := by
  unfold ldA
  rw [readCov_whole_apply, dma1_apply]
  exact congrArg f (funext fun a => Fin.ext (by fin_cases a <;> simp [Rect.unit, Rect.emb, ix3]))

theorem ldE_apply (m : Memref sig .tc .vmem S8x32x512 .f32) (f : HbBuf0 (F := Ideal) c hbM0_2) (b : Fin 8) (n : Fin 32) (k : Fin 512) :
    ldE c m f b (ix3 0 n k) = f (ix3 b n k) := by
  unfold ldE
  rw [readCov_whole_apply, dma2_apply]
  exact congrArg f (funext fun a => Fin.ext (by fin_cases a <;> simp [Rect.unit, Rect.emb, ix3]))

theorem ldW0_apply (m : Memref sig .tc .vmem S16x32x64 .f32) (f : HbBuf0 (F := Ideal) c hbM0_3) (s : Fin 16) (k : Fin 32) (u : Fin 64) :
    ldW0 c m f s (ix2 k u) = f (ix3 s k u) := by
  pointwise [ldW0]
  rw [readCov_whole_apply, dma3_apply]
  exact congrArg f (funext fun a => Fin.ext (by fin_cases a <;> simp [Rect.unit, Rect.emb, ix3]))

theorem ldW_apply (m : Memref sig .tc .vmem S3x16x64x64 .f32) (f : HbBuf0 (F := Ideal) c hbM0_4) (l : Fin 3) (s : Fin 16) (k u : Fin 64) :
    ldW c m f l s (ix2 k u) = f (ix4 l s k u) := by
  pointwise [ldW]
  rw [readCov_whole_apply, dma4_apply]
  exact congrArg f (funext fun a => Fin.ext (by fin_cases a <;> simp [Rect.unit, Rect.emb, ix4]))

theorem ldR0_apply (m : Memref sig .tc .vmem S32x64 .f32) (f : HbBuf0 (F := Ideal) c hbM0_5) (k : Fin 32) (u : Fin 64) :
    ldR0 c m f (ix2 k u) = f (ix2 k u) := by
  unfold ldR0
  rw [readCov_whole_apply, dma5_apply]
  exact congrArg f (funext fun a => Fin.ext (by fin_cases a <;> simp [Rect.unit, Rect.emb, ix2]))

theorem ldR_apply (m : Memref sig .tc .vmem S3x64x64 .f32) (f : HbBuf0 (F := Ideal) c hbM0_6) (l : Fin 3) (k u : Fin 64) :
    ldR c m f l (ix2 k u) = f (ix3 l k u) := by
  pointwise [ldR]
  rw [readCov_whole_apply, dma6_apply]
  exact congrArg f (funext fun a => Fin.ext (by fin_cases a <;> simp [Rect.unit, Rect.emb, ix3]))

theorem ldD_apply (m : Memref sig .tc .vmem S64x19 .f32) (f : HbBuf0 (F := Ideal) c hbM0_7) (k : Fin 64) (o : Fin 19) :
    ldD c m f (ix2 k o) = f (ix2 k o) := by
  unfold ldD
  rw [readCov_whole_apply, dma7_apply]
  exact congrArg f (funext fun a => Fin.ext (by fin_cases a <;> simp [Rect.unit, Rect.emb, ix2]))

end Read

/-! ## The layers as sums -/

section Sums

variable (A : Fin 8 → Fin 32 → Fin 32 → EReal) (E : Fin 8 → Fin 32 → Fin 32 → Fin 16 → EReal)

/-- The first layer over the extended reals. -/
theorem layer_first (ae : Fin 8 → FVec Ideal S32x512 .f32) (h : FVec Ideal S256x32 .f32) (w : Fin 16 → FVec Ideal S32x64 .f32)
    (r : FVec Ideal S32x64 .f32) (W : Fin 16 → Fin 32 → Fin 64 → EReal) (R : Fin 32 → Fin 64 → EReal) (H : Fin 8 → Fin 32 → Fin 32 → EReal)
    (hae : ∀ b n k, ae b (ix2 n k) = A b n (Conv.nbr k) * E b n (Conv.nbr k) (Conv.chan k))
    (hh : ∀ b n f, h (ix2 (row b n) f) = H b n f) (hw : ∀ s f u, w s (ix2 f u) = W s f u) (hr : ∀ f u, r (ix2 f u) = R f u)
    (b : Fin 8) (n : Fin 32) (u : Fin 64) :
    layerV ae (fun s => mul0 h (w s)) (mul0 h r) (ix2 (row b n) u) = Conv.layer A E W R H b n u := by
  rw [layerV_apply]
  simp only [mul0_apply, hae, hh, hw, hr]
  rfl

/-- A later layer over the extended reals. -/
theorem layer_later (ae : Fin 8 → FVec Ideal S32x512 .f32) (h : FVec Ideal S256x64 .f32) (w : Fin 16 → FVec Ideal S64x64 .f32)
    (r : FVec Ideal S64x64 .f32) (W : Fin 16 → Fin 64 → Fin 64 → EReal) (R : Fin 64 → Fin 64 → EReal) (H : Fin 8 → Fin 32 → Fin 64 → EReal)
    (hae : ∀ b n k, ae b (ix2 n k) = A b n (Conv.nbr k) * E b n (Conv.nbr k) (Conv.chan k))
    (hh : ∀ b n f, h (ix2 (row b n) f) = H b n f) (hw : ∀ s f u, w s (ix2 f u) = W s f u) (hr : ∀ f u, r (ix2 f u) = R f u)
    (b : Fin 8) (n : Fin 32) (u : Fin 64) :
    layerV ae (fun s => mul1 h (w s)) (mul1 h r) (ix2 (row b n) u) = Conv.layer A E W R H b n u := by
  rw [layerV_apply]
  simp only [mul1_apply, hae, hh, hw, hr]
  rfl

variable (c : Dev nD)
 (arg9 : Memref sig .tc .vmem S8x32x33 .f32)
  (arg10 : Memref sig .tc .vmem S8x32x32 .f32)
  (arg11 : Memref sig .tc .vmem S8x32x512 .f32)
  (arg12 : Memref sig .tc .vmem S16x32x64 .f32)
  (arg13 : Memref sig .tc .vmem S3x16x64x64 .f32)
  (arg14 : Memref sig .tc .vmem S32x64 .f32)
  (arg15 : Memref sig .tc .vmem S3x64x64 .f32)
  (arg16 : Memref sig .tc .vmem S64x19 .f32)
  (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) (fh5 : HbBuf0 (F := Ideal) c hbM0_5) (fh6 : HbBuf0 (F := Ideal) c hbM0_6) (fh7 : HbBuf0 (F := Ideal) c hbM0_7)
  (W0 : Fin 16 → Fin 32 → Fin 64 → EReal) (R0 : Fin 32 → Fin 64 → EReal)
  (W : Fin 3 → Fin 16 → Fin 64 → Fin 64 → EReal) (R : Fin 3 → Fin 64 → Fin 64 → EReal)
  (X : Fin 8 → Fin 32 → Fin 32 → EReal) (D : Fin 64 → Fin 19 → EReal)

/-- What the body stores, over the extended reals: four layers, the sum over the nodes, the read-out. -/
theorem out_apply (arg8 : Memref sig .tc .vmem S8x19 .f32) (harg8 : arg8.IsWhole) (h9 : arg9.IsWhole) (h10 : arg10.IsWhole) (h11 : arg11.IsWhole) (h12 : arg12.IsWhole) (h13 : arg13.IsWhole) (h14 : arg14.IsWhole) (h15 : arg15.IsWhole) (h16 : arg16.IsWhole)
    (hX : ∀ (b : Fin 8) (n f : Fin 32), fh0 (ix3 b n (⟨f.val, by omega⟩ : Fin 33)) = X b n f)
    (hA : ∀ (b : Fin 8) (n i : Fin 32), fh1 (ix3 b n i) = A b n i)
    (hE : ∀ (b : Fin 8) (n : Fin 32) (k : Fin 512), fh2 (ix3 b n k) = E b n (Conv.nbr k) (Conv.chan k))
    (hW0 : ∀ (s : Fin 16) (f : Fin 32) (u : Fin 64), fh3 (ix3 s f u) = W0 s f u)
    (hW : ∀ (l : Fin 3) (s : Fin 16) (f u : Fin 64), fh4 (ix4 l s f u) = W l s f u)
    (hR0 : ∀ (f : Fin 32) (u : Fin 64), fh5 (ix2 f u) = R0 f u)
    (hR : ∀ (l : Fin 3) (f u : Fin 64), fh6 (ix3 l f u) = R l f u)
    (hD : ∀ (u : Fin 64) (o : Fin 19), fh7 (ix2 u o) = D u o)
    (b : Fin 8) (o : Fin 19) :
    out0_A_0 (F := Ideal) c arg8 harg8 arg9 h9 arg10 h10 arg11 h11 arg12 h12 arg13 h13 arg14 h14 arg15 h15 arg16 h16 fh0 fh1 fh2 fh3 fh4 fh5 fh6 fh7 (ix2 b o)
    = ∑ u : Fin 64, (∑ n : Fin 32, Conv.layer A E (W 2) (R 2) (Conv.layer A E (W 1) (R 1) (Conv.layer A E (W 0) (R 0)
        (Conv.layer A E W0 R0 X))) b n u) * D u o := by
  have hae : ∀ (b : Fin 8) (n : Fin 32) (k : Fin 512), edge (ldA c arg10 fh1 b) (ldE c arg11 fh2 b) (ix2 n k)
      = A b n (Conv.nbr k) * E b n (Conv.nbr k) (Conv.chan k) := fun b n k => by
    rw [edge_apply, ldA_apply, ldE_apply, hA, hE]
  rw [out, head_apply]
  simp only [ldD_apply, hD]
  refine Finset.sum_congr rfl fun u _ => congrArg (· * D u o) (Finset.sum_congr rfl fun n _ => ?_)
  refine layer_later A E _ _ _ _ _ _ _ hae (fun b n u => ?_) (fun s f u => (ldW_apply c _ _ _ _ _ _).trans (hW _ _ _ _))
    (fun f u => (ldR_apply c _ _ _ _ _).trans (hR _ _ _)) b n u
  rw [layer2]
  refine layer_later A E _ _ _ _ _ _ _ hae (fun b n u => ?_) (fun s f u => (ldW_apply c _ _ _ _ _ _).trans (hW _ _ _ _))
    (fun f u => (ldR_apply c _ _ _ _ _).trans (hR _ _ _)) b n u
  rw [layer1]
  refine layer_later A E _ _ _ _ _ _ _ hae (fun b n u => ?_) (fun s f u => (ldW_apply c _ _ _ _ _ _).trans (hW _ _ _ _))
    (fun f u => (ldR_apply c _ _ _ _ _).trans (hR _ _ _)) b n u
  rw [layer0]
  exact layer_first A E _ _ _ _ _ _ _ hae (fun b n f => by rw [feat_apply, ldX_apply, hX])
    (fun s f u => (ldW0_apply c _ _ _ _ _).trans (hW0 _ _ _)) (fun f u => (ldR0_apply c _ _ _ _).trans (hR0 _ _)) b n u

end Sums

end Cert.Body
-- ==== Proof.Array.lean ====
/- What the kernel's result array holds after the run, entry by entry, over the argument arrays: the four layers in the
   kernel's order of summation, the sum over the nodes and the read-out. -/
module

public import proofs.«01_k».proof.Proof.Body
public import proofs.«01_k».proof.Proof.Gen.KernelIdeal.Value
public import Idealize.ShloMosaic.Lib.Pipeline.ValueKit

@[expose] public section

set_option maxRecDepth 16384

noncomputable section

namespace Cert.Array

open Cert.KernelIdeal Cert.KernelIdeal.Gen Cert.Conv Idealize.ShloMosaic Idealize.ShloMosaic.TcCoe

variable (m : (ℓ : Loc nD τ sig) → Buf (Elt Ideal) ℓ) (c : Dev nD)

/-- The relaid edge features: position `k` of the last axis is channel `k / 32` of neighbour `k mod 32`. -/
theorem edge_apply (b : Fin 8) (n : Fin 32) (k : Fin 512) :
    V m c main_v1 (ix3 b n k) = dE (m (c.tc.loc main_arg2)) b n (nbr k) (chan k) := by
  entry_read
  pointwise [dE]

/-- The first layer's relaid weights: input features by output features for each channel. -/
theorem w0_apply (s : Fin 16) (f : Fin 32) (u : Fin 64) :
    V m c main_v3 (ix3 s f u) = dW0 (m (c.tc.loc main_arg3)) s f u := by
  entry_read
  pointwise [dW0, col0]

/-- The later layers' relaid weights, likewise. -/
theorem w_apply (l : Fin 3) (s : Fin 16) (f u : Fin 64) :
    V m c main_v5 (ix4 l s f u) = dW (m (c.tc.loc main_arg7)) l s f u := by
  entry_read
  pointwise [dW, col1]

/-- The result array at a graph and an output. -/
def res (i : S8x19.Idx) : EReal :=
  let A := dA (m (c.tc.loc main_arg1))
  let E := dE (m (c.tc.loc main_arg2))
  let W := dW (m (c.tc.loc main_arg7))
  let R := dR (m (c.tc.loc main_arg9))
  ∑ u : Fin 64, (∑ n : Fin 32, layer A E (W 2) (R 2) (layer A E (W 1) (R 1) (layer A E (W 0) (R 0)
    (layer A E (dW0 (m (c.tc.loc main_arg3))) (dR0 (m (c.tc.loc main_arg5))) (dX (m (c.tc.loc main_arg0)))))) (i 0) n u)
      * dD (m (c.tc.loc main_arg11)) u (i 1)

/-- What a grid point writes back is `res`. -/
theorem out_eq (t : Fin cfg0.N) (j : S8x19.Idx) : outsAt0 m c t j = res m c j := by
  unfold outsAt0
  obtain ⟨b, o, rfl⟩ : ∃ b o, j = ix2 b o := ⟨j 0, j 1, eq_ix2 j⟩
  refine Body.out_apply (A := dA (m (c.tc.loc main_arg1))) (E := dE (m (c.tc.loc main_arg2))) (W0 := dW0 (m (c.tc.loc main_arg3)))
    (R0 := dR0 (m (c.tc.loc main_arg5))) (W := dW (m (c.tc.loc main_arg7))) (R := dR (m (c.tc.loc main_arg9)))
    (X := dX (m (c.tc.loc main_arg0))) (D := dD (m (c.tc.loc main_arg11))) (hE := edge_apply m c) (hW0 := w0_apply m c)
    (hW := w_apply m c) (hX := ?_) (hA := ?_) (hR0 := ?_) (hR := ?_) (hD := ?_) ..
  all_goals intros; rfl

/-- After the run the result array holds `res`. -/
theorem arr_eq : (dats m 0 c).arrAt 0 cfg0.N = res m c := by
  refine (dats m 0 c).arrAt_eq_of_after_last 0 t0_0 (by decide +kernel) _ fun j => ?_
  blk_simp
  rw [after0_0]
  exact out_eq m c t0_0 j

end Cert.Array

end
-- ==== Proof.RefLayer.lean ====
/- What the reference computes: its layers, each one function of whole arrays, read at an index and set equal to the
   layer of `Conv`; then the masked sum over the nodes and the read-out. -/
module

public import proofs.«01_k».proof.Proof.Gen.ReferenceIdeal.Run
public import proofs.«01_k».proof.Proof.Gen.ReferenceIdeal.Read
public import proofs.«01_k».proof.Proof.Conv
public import Idealize.ShloMosaic.Lib.Pointwise

@[expose] public section

set_option maxRecDepth 16384

noncomputable section

namespace Cert.RefLayer

open Cert.Conv Cert.ReferenceIdeal Cert.ReferenceIdeal.Gen Cert.ReferenceIdeal.Read Idealize.ShloMosaic Idealize.ShloMosaic.TcCoe Idealize.ShloMosaic.StableHlo

section Defs

variable {F : FTy → Type} [FloatOps F]

/-- Every edge's matrix in the first layer, masked by the adjacency. -/
def edges0 (a : FVec F S8x32x32 .f32) (e : FVec F S8x32x32x16 .f32) (w : FVec F S16x2048 .f32) (bw : FVec F S2048 .f32) :
    FVec F S8x32x32x64x32 .f32 :=
  mulf (shapeCast S8x32x32x64x32 (addf (Host.dotGeneral dot_S8x32x32x16_S16x2048_S8x32x32x2048_3_0_012_1_n_n none e w)
      (broadcastInDim S8x32x32x2048 ![0, 1, 2, 3] bcast_S1x1x1x2048_S8x32x32x2048_0_1_2_3
        (broadcastInDim S1x1x1x2048 ![3] bcast_S2048_S1x1x1x2048_3 bw))) shapeCasts_S8x32x32x2048_S8x32x32x64x32)
    (broadcastInDim S8x32x32x64x32 ![0, 1, 2, 3, 4] bcast_S8x32x32x1x1_S8x32x32x64x32_0_1_2_3_4
      (broadcastInDim S8x32x32x1x1 ![0, 1, 2] bcast_S8x32x32_S8x32x32x1x1_0_1_2 a))

/-- Every edge's matrix in a later layer, masked by the adjacency. -/
def edges1 (a : FVec F S8x32x32 .f32) (e : FVec F S8x32x32x16 .f32) (w : FVec F S16x4096 .f32) (bw : FVec F S4096 .f32) :
    FVec F S8x32x32x64x64 .f32 :=
  mulf (shapeCast S8x32x32x64x64 (addf (Host.dotGeneral dot_S8x32x32x16_S16x4096_S8x32x32x4096_3_0_012_1_n_n none e w)
      (broadcastInDim S8x32x32x4096 ![0, 1, 2, 3] bcast_S1x1x1x4096_S8x32x32x4096_0_1_2_3
        (broadcastInDim S1x1x1x4096 ![3] bcast_S4096_S1x1x1x4096_3 bw))) shapeCasts_S8x32x32x4096_S8x32x32x64x64)
    (broadcastInDim S8x32x32x64x64 ![0, 1, 2, 3, 4] bcast_S8x32x32x1x1_S8x32x32x64x64_0_1_2_3_4
      (broadcastInDim S8x32x32x1x1 ![0, 1, 2] bcast_S8x32x32_S8x32x32x1x1_0_1_2 a))

/-- A layer's last step: bias and the maximum with zero. -/
def finish (v : FVec F S8x32x64 .f32) (bk : FVec F S64 .f32) : FVec F S8x32x64 .f32 :=
  maximumf (addf v (broadcastInDim S8x32x64 ![0, 1, 2] bcast_S1x1x64_S8x32x64_0_1_2 (broadcastInDim S1x1x64 ![2] bcast_S64_S1x1x64_2 bk)))
    (broadcastInDim S8x32x64 ![] bcast_S_S8x32x64 (constant S_ .f32 0x00000000#32))

/-- The first layer. -/
def ref0 (a : FVec F S8x32x32 .f32) (e : FVec F S8x32x32x16 .f32) (w : FVec F S16x2048 .f32) (bw : FVec F S2048 .f32)
    (r : FVec F S32x64 .f32) (bk : FVec F S64 .f32) (h : FVec F S8x32x32 .f32) : FVec F S8x32x64 .f32 :=
  finish (addf (Host.dotGeneral dot_S8x32x32x64x32_S8x32x32_S8x32x64_42_21_13_n_0_0 none (edges0 a e w bw) h)
    (Host.dotGeneral dot_S8x32x32_S32x64_S8x32x64_2_0_01_1_n_n none h r)) bk

/-- A later layer. -/
def ref1 (a : FVec F S8x32x32 .f32) (e : FVec F S8x32x32x16 .f32) (w : FVec F S16x4096 .f32) (bw : FVec F S4096 .f32)
    (r : FVec F S64x64 .f32) (bk : FVec F S64 .f32) (h : FVec F S8x32x64 .f32) : FVec F S8x32x64 .f32 :=
  finish (addf (Host.dotGeneral dot_S8x32x32x64x64_S8x32x64_S8x32x64_42_21_13_n_0_0 none (edges1 a e w bw) h)
    (Host.dotGeneral dot_S8x32x64_S64x64_S8x32x64_2_0_01_1_n_n none h r)) bk

variable (x0 : FVec F S8x32x33 .f32) (x1 : FVec F S8x32x32 .f32) (x2 : FVec F S8x32x32x16 .f32) (x3 : FVec F S16x2048 .f32)
  (x4 : FVec F S2048 .f32) (x5 : FVec F S32x64 .f32) (x6 : FVec F S64 .f32) (x7 : FVec F S3x16x4096 .f32)
  (x8 : FVec F S3x4096 .f32) (x9 : FVec F S3x64x64 .f32) (x10 : FVec F S3x64 .f32)

theorem v17_eq : val_main_v17 (F := F) x0 x1 x2 x3 x4 x5 x6 = ref0 x1 x2 x3 x4 x5 x6 (val_main_v2 x0) := rfl

theorem v40_eq : val_main_v40 (F := F) x0 x1 x2 x3 x4 x5 x6 x7 x8 x9 x10
    = ref1 x1 x2 (val_main_v19 x7) (val_main_v21 x8) (val_main_v23 x9) (val_main_v25 x10)
        (val_main_v17 (F := F) x0 x1 x2 x3 x4 x5 x6) := rfl

theorem v63_eq : val_main_v63 (F := F) x0 x1 x2 x3 x4 x5 x6 x7 x8 x9 x10
    = ref1 x1 x2 (val_main_v42 x7) (val_main_v44 x8) (val_main_v46 x9) (val_main_v48 x10)
        (val_main_v40 (F := F) x0 x1 x2 x3 x4 x5 x6 x7 x8 x9 x10) := rfl

theorem v86_eq : val_main_v86 (F := F) x0 x1 x2 x3 x4 x5 x6 x7 x8 x9 x10
    = ref1 x1 x2 (val_main_v65 x7) (val_main_v67 x8) (val_main_v69 x9) (val_main_v71 x10)
        (val_main_v63 (F := F) x0 x1 x2 x3 x4 x5 x6 x7 x8 x9 x10) := rfl

end Defs

/-! ## Read at an index -/

theorem edges0_apply (a : FVec Ideal S8x32x32 .f32) (e : FVec Ideal S8x32x32x16 .f32) (w : FVec Ideal S16x2048 .f32) (bw : FVec Ideal S2048 .f32)
    (b : Fin 8) (n i : Fin 32) (u : Fin 64) (f : Fin 32) :
    edges0 a e w bw (ix5 b n i u f)
      = ((∑ s : Fin 16, e (ix4 b n i s) * w (ix2 s (col0 u f))) + bw (ix1 (col0 u f))) * a (ix3 b n i) := by
  pointwise [edges0, col0]

theorem edges1_apply (a : FVec Ideal S8x32x32 .f32) (e : FVec Ideal S8x32x32x16 .f32) (w : FVec Ideal S16x4096 .f32) (bw : FVec Ideal S4096 .f32)
    (b : Fin 8) (n i : Fin 32) (u : Fin 64) (f : Fin 64) :
    edges1 a e w bw (ix5 b n i u f)
      = ((∑ s : Fin 16, e (ix4 b n i s) * w (ix2 s (col1 u f))) + bw (ix1 (col1 u f))) * a (ix3 b n i) := by
  pointwise [edges1, col1]

theorem ref0_apply (a : FVec Ideal S8x32x32 .f32) (e : FVec Ideal S8x32x32x16 .f32) (w : FVec Ideal S16x2048 .f32) (bw : FVec Ideal S2048 .f32)
    (r : FVec Ideal S32x64 .f32) (bk : FVec Ideal S64 .f32) (h : FVec Ideal S8x32x32 .f32) (b : Fin 8) (n : Fin 32) (u : Fin 64) :
    ref0 a e w bw r bk h (ix3 b n u)
      = max (((∑ f : Fin 32, ∑ i : Fin 32, edges0 a e w bw (ix5 b n i u f) * h (ix3 b i f))
          + ∑ f : Fin 32, h (ix3 b n f) * r (ix2 f u)) + bk (ix1 u)) 0 := by
  unfold ref0
  generalize edges0 a e w bw = k
  pointwise [finish]

theorem ref1_apply (a : FVec Ideal S8x32x32 .f32) (e : FVec Ideal S8x32x32x16 .f32) (w : FVec Ideal S16x4096 .f32) (bw : FVec Ideal S4096 .f32)
    (r : FVec Ideal S64x64 .f32) (bk : FVec Ideal S64 .f32) (h : FVec Ideal S8x32x64 .f32) (b : Fin 8) (n : Fin 32) (u : Fin 64) :
    ref1 a e w bw r bk h (ix3 b n u)
      = max (((∑ f : Fin 64, ∑ i : Fin 32, edges1 a e w bw (ix5 b n i u f) * h (ix3 b i f))
          + ∑ f : Fin 64, h (ix3 b n f) * r (ix2 f u)) + bk (ix1 u)) 0 := by
  unfold ref1
  generalize edges1 a e w bw = k
  pointwise [finish]

/-- The first layer is `Conv`'s where the biases are zero. -/
theorem ref0_eq (a : FVec Ideal S8x32x32 .f32) (e : FVec Ideal S8x32x32x16 .f32) (w : FVec Ideal S16x2048 .f32) (bw : FVec Ideal S2048 .f32)
    (r : FVec Ideal S32x64 .f32) (bk : FVec Ideal S64 .f32) (h : FVec Ideal S8x32x32 .f32)
    (hbw : ∀ i, bw i = 0) (hbk : ∀ i, bk i = 0) (H : Fin 8 → Fin 32 → Fin 32 → EReal) (hh : ∀ b n f, h (ix3 b n f) = H b n f)
    (b : Fin 8) (n : Fin 32) (u : Fin 64) :
    ref0 a e w bw r bk h (ix3 b n u) = layerRef (dA a) (dE e) (dW0 w) (dR0 r) H b n u := by
  rw [ref0_apply]
  simp only [edges0_apply, hbw, hbk, add_zero, hh]
  rfl

/-- A later layer is `Conv`'s where the biases are zero. -/
theorem ref1_eq (a : FVec Ideal S8x32x32 .f32) (e : FVec Ideal S8x32x32x16 .f32) (w : FVec Ideal S16x4096 .f32) (bw : FVec Ideal S4096 .f32)
    (r : FVec Ideal S64x64 .f32) (bk : FVec Ideal S64 .f32) (h : FVec Ideal S8x32x64 .f32)
    (hbw : ∀ i, bw i = 0) (hbk : ∀ i, bk i = 0) (H : Fin 8 → Fin 32 → Fin 64 → EReal) (hh : ∀ b n f, h (ix3 b n f) = H b n f)
    (W : Fin 16 → Fin 64 → Fin 64 → EReal) (hW : ∀ s f u, w (ix2 s (col1 u f)) = W s f u)
    (R : Fin 64 → Fin 64 → EReal) (hR : ∀ f u, r (ix2 f u) = R f u) (b : Fin 8) (n : Fin 32) (u : Fin 64) :
    ref1 a e w bw r bk h (ix3 b n u) = layerRef (dA a) (dE e) W R H b n u := by
  rw [ref1_apply]
  simp only [edges1_apply, hbw, hbk, add_zero, hh, hW, hR]
  rfl

variable (x0 : FVec Ideal S8x32x33 .f32) (x1 : FVec Ideal S8x32x32 .f32) (x2 : FVec Ideal S8x32x32x16 .f32) (x3 : FVec Ideal S16x2048 .f32)
  (x4 : FVec Ideal S2048 .f32) (x5 : FVec Ideal S32x64 .f32) (x6 : FVec Ideal S64 .f32) (x7 : FVec Ideal S3x16x4096 .f32)
  (x8 : FVec Ideal S3x4096 .f32) (x9 : FVec Ideal S3x64x64 .f32) (x10 : FVec Ideal S3x64 .f32) (x11 : FVec Ideal S64x19 .f32)
  (x12 : FVec Ideal S19 .f32)

theorem wt0 (s : Fin 16) (k : Fin 4096) : val_main_v19 (F := Ideal) x7 (ix2 s k) = x7 (ix3 0 s k) := by
  pointwise [val_main_v19, val_main_v18]
theorem wt1 (s : Fin 16) (k : Fin 4096) : val_main_v42 (F := Ideal) x7 (ix2 s k) = x7 (ix3 1 s k) := by
  pointwise [val_main_v42, val_main_v41]
theorem wt2 (s : Fin 16) (k : Fin 4096) : val_main_v65 (F := Ideal) x7 (ix2 s k) = x7 (ix3 2 s k) := by
  pointwise [val_main_v65, val_main_v64]
theorem rt0 (f u : Fin 64) : val_main_v23 (F := Ideal) x9 (ix2 f u) = x9 (ix3 0 f u) := by
  pointwise [val_main_v23, val_main_v22]
theorem rt1 (f u : Fin 64) : val_main_v46 (F := Ideal) x9 (ix2 f u) = x9 (ix3 1 f u) := by
  pointwise [val_main_v46, val_main_v45]
theorem rt2 (f u : Fin 64) : val_main_v69 (F := Ideal) x9 (ix2 f u) = x9 (ix3 2 f u) := by
  pointwise [val_main_v69, val_main_v68]

theorem node_apply (b : Fin 8) (n f : Fin 32) : val_main_v2 (F := Ideal) x0 (ix3 b n f) = dX x0 b n f := by
  unfold dX
  pointwise [val_main_v2]

theorem mask_apply (b : Fin 8) (n : Fin 32) (u : Fin 64) : val_main_v88 (F := Ideal) x0 (ix3 b n u) = x0 (ix3 b n 32) := by
  pointwise [val_main_v88, val_main_v87, val_main_v1, val_main_v0]

theorem last_apply (hmask : ∀ (b : Fin 8) (n : Fin 32), x0 (ix3 b n 32) = 1) (hb : ∀ i, x12 i = 0) (b : Fin 8) (o : Fin 19) :
    val_main_v94 (F := Ideal) x0 x1 x2 x3 x4 x5 x6 x7 x8 x9 x10 x11 x12 (ix2 b o)
      = ∑ u : Fin 64, (∑ n : Fin 32, val_main_v86 (F := Ideal) x0 x1 x2 x3 x4 x5 x6 x7 x8 x9 x10 (ix3 b n u)) * dD x11 u o := by
  have hm := mask_apply x0
  unfold val_main_v94 val_main_v91 val_main_v90 val_main_v89 dD
  generalize val_main_v86 (F := Ideal) x0 x1 x2 x3 x4 x5 x6 x7 x8 x9 x10 = h
  generalize val_main_v88 (F := Ideal) x0 = mk at hm ⊢
  pointwise [val_main_v93, val_main_v92, val_main_cst]
  simp only [hm, hmask, hb, mul_one, add_zero, zero_add]

/-- The reference's result: four layers in its order, the sum over the nodes, the read-out. -/
theorem val_apply (hmask : ∀ (b : Fin 8) (n : Fin 32), x0 (ix3 b n 32) = 1) (h4 : ∀ i, x4 i = 0) (h6 : ∀ i, x6 i = 0)
    (h8 : ∀ i, x8 i = 0) (h10 : ∀ i, x10 i = 0) (h12 : ∀ i, x12 i = 0) (b : Fin 8) (o : Fin 19) :
    val_main_v94 (F := Ideal) x0 x1 x2 x3 x4 x5 x6 x7 x8 x9 x10 x11 x12 (ix2 b o)
      = ∑ u : Fin 64, (∑ n : Fin 32, layerRef (dA x1) (dE x2) (dW x7 2) (dR x9 2) (layerRef (dA x1) (dE x2) (dW x7 1) (dR x9 1)
          (layerRef (dA x1) (dE x2) (dW x7 0) (dR x9 0) (layerRef (dA x1) (dE x2) (dW0 x3) (dR0 x5) (dX x0)))) b n u) * dD x11 u o := by
  rw [last_apply _ _ _ _ _ _ _ _ _ _ _ _ _ hmask h12]
  refine Finset.sum_congr rfl fun u _ => congrArg (· * dD x11 u o) (Finset.sum_congr rfl fun n _ => ?_)
  rw [v86_eq]
  refine ref1_eq _ _ _ _ _ _ _ (fun i => h8 _) (fun i => h10 _) _ (fun b n u => ?_) _ (fun s f u => wt2 x7 _ _) _ (fun f u => rt2 x9 _ _) b n u
  rw [v63_eq]
  refine ref1_eq _ _ _ _ _ _ _ (fun i => h8 _) (fun i => h10 _) _ (fun b n u => ?_) _ (fun s f u => wt1 x7 _ _) _ (fun f u => rt1 x9 _ _) b n u
  rw [v40_eq]
  refine ref1_eq _ _ _ _ _ _ _ (fun i => h8 _) (fun i => h10 _) _ (fun b n u => ?_) _ (fun s f u => wt0 x7 _ _) _ (fun f u => rt0 x9 _ _) b n u
  rw [v17_eq]
  exact ref0_eq _ _ _ _ _ _ _ h4 h6 _ (node_apply x0) b n u

end Cert.RefLayer
-- ==== Proof.PreRead.lean ====
/- What the precondition says of the argument arrays, read entry by entry: the mask column is one, every bias is zero, and
   the data that meet in the layers' sums are real numbers. -/
module

public import proofs.«01_k».proof.Pre_unbiased_unmasked_finite
public import proofs.«01_k».proof.Proof.Conv

@[expose] public section

set_option maxRecDepth 16384

noncomputable section

namespace Cert.PreRead

open Cert.Pre_unbiased_unmasked_finite Cert.Conv Idealize.ShloMosaic

/-- The side conditions of the precondition's operations hold. -/
instance preFacts : Cert.Pre_unbiased_unmasked_finite.Facts where
  slices_S8x32x33_S8x32x1_0_0_32 := by decide
  shapeCasts_S8x32x1_S8x32 := by decide
  bcast_S_S8x32 := by decide
  bcast_S_S8x32x33 := by decide
  bcast_S_S8x32x32 := by decide
  bcast_S_S8x32x32x16 := by decide
  bcast_S_S16x2048 := by decide
  bcast_S_S2048 := by decide
  bcast_S_S32x64 := by decide
  bcast_S_S64 := by decide
  bcast_S_S3x16x4096 := by decide
  bcast_S_S3x4096 := by decide
  slices_S3x64x64_S2x64x64_0_0_0 := by decide
  bcast_S_S2x64x64 := by decide
  bcast_S_S3x64 := by decide
  bcast_S_S19 := by decide

/-- An extended real whose absolute value is below +∞ is a real number. -/
theorem isReal_of_abs_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt := (Ideal.cmp_olt_eq_one _ _).1 h
  rw [max_lt_iff] at hlt
  refine ⟨x.toReal, EReal.coe_toReal hlt.1.ne fun hb => ?_⟩
  rw [hb] at hlt
  simp at hlt

/-- A comparison "every entry's absolute value is below +∞" that holds everywhere makes every entry real. -/
theorem all_real {s : Shape} (x : FVec Ideal s .f32) (hb : S_.BroadcastsInDim s (![] : Fin 0 → Fin s.rank))
    (h : cmpf .olt (Host.absf x) (broadcastInDim s ![] hb (constant (F := Ideal) S_ .f32 0x7F800000#32)) = fun _ => 1#1) (i : s.Idx) :
    IsReal (x i) :=
  isReal_of_abs_lt (congrFun h i)

/-- A comparison "every entry equals a constant" that holds everywhere makes every entry the constant. -/
theorem all_eq {s : Shape} (x : FVec Ideal s .f32) (w : BitVec 32) (hb : S_.BroadcastsInDim s (![] : Fin 0 → Fin s.rank))
    (h : cmpf .oeq x (broadcastInDim s ![] hb (constant (F := Ideal) S_ .f32 w)) = fun _ => 1#1) (i : s.Idx) :
    x i = Ideal.ofBits .f32 w :=
  (Ideal.cmp_oeq_eq_one _ _).1 (congrFun h i)

variable (x0 : S8x32x33.Idx → EReal) (x1 : S8x32x32.Idx → EReal) (x2 : S8x32x32x16.Idx → EReal) (x3 : S16x2048.Idx → EReal)
  (x4 : S2048.Idx → EReal) (x5 : S32x64.Idx → EReal) (x6 : S64.Idx → EReal) (x7 : S3x16x4096.Idx → EReal)
  (x8 : S3x4096.Idx → EReal) (x9 : S3x64x64.Idx → EReal) (x10 : S3x64.Idx → EReal) (x11 : S64x19.Idx → EReal)
  (x12 : S19.Idx → EReal)

/-- What the precondition gives. -/
structure Good : Prop where
  mask : ∀ (b : Fin 8) (n : Fin 32), x0 (ix3 b n (32 : Fin 33)) = 1
  x : ∀ i, IsReal (x0 i)
  a : ∀ i, IsReal (x1 i)
  e : ∀ i, IsReal (x2 i)
  w0 : ∀ i, IsReal (x3 i)
  wb0 : ∀ i, x4 i = 0
  r0 : ∀ i, IsReal (x5 i)
  b0 : ∀ i, x6 i = 0
  w : ∀ i, IsReal (x7 i)
  wb : ∀ i, x8 i = 0
  r : ∀ (l : Fin 2) (f u : Fin 64), IsReal (x9 (ix3 (⟨l.val, by omega⟩ : Fin 3) f u))
  b : ∀ i, x10 i = 0
  db : ∀ i, x12 i = 0

/-- The precondition holding everywhere, as facts on the entries. -/
theorem good_of_fn
    (h : (fn (F := Ideal) x0 x1 x2 x3 x4 x5 x6 x7 x8 x9 x10 x11 x12)
      = (fun _ => 1#1, fun _ => 1#1, fun _ => 1#1, fun _ => 1#1, fun _ => 1#1, fun _ => 1#1, fun _ => 1#1, fun _ => 1#1,
          fun _ => 1#1, fun _ => 1#1, fun _ => 1#1, fun _ => 1#1, fun _ => 1#1)) :
    Good x0 x1 x2 x3 x4 x5 x6 x7 x8 x9 x10 x12 := by
  unfold fn fn_part1 fn_part2 at h
  simp only [Prod.mk.injEq] at h
  obtain ⟨k0, kx, ka, ke, kw0, kb0, kr0, kc0, kw, kb, kr, kc, kd⟩ := h
  refine ⟨fun b n => ?_, all_real _ _ kx, all_real _ _ ka, all_real _ _ ke, all_real _ _ kw0, fun i => ?_, all_real _ _ kr0,
    fun i => ?_, all_real _ _ kw, fun i => ?_, fun l f u => ?_, fun i => ?_, fun i => ?_⟩
  · have := all_eq _ _ _ k0 (ix2 b n)
    pointwise at this
    exact this
  · exact (all_eq _ _ _ kb0 i).trans Ideal.ofBits_zero_f32
  · exact (all_eq _ _ _ kc0 i).trans Ideal.ofBits_zero_f32
  · exact (all_eq _ _ _ kb i).trans Ideal.ofBits_zero_f32
  · have := all_real _ _ kr (ix3 l f u)
    pointwise at this
    exact this
  · exact (all_eq _ _ _ kc i).trans Ideal.ofBits_zero_f32
  · exact (all_eq _ _ _ kd i).trans Ideal.ofBits_zero_f32

end Cert.PreRead

end
-- ==== Proof.Equation.lean ====
/- The equation of the two programs' results: on data that meet the precondition the reference's result is the kernel's. -/
module

public import proofs.«01_k».proof.Proof.RefLayer
public import proofs.«01_k».proof.Proof.PreRead

@[expose] public section

noncomputable section

namespace Cert.Equation

open Cert.ReferenceIdeal Cert.Conv Cert.PreRead Idealize.ShloMosaic

/-- The four layers, from real data and real root weights in all but the last, are the same in both orders of summation. -/
theorem layers_eq {A : Fin 8 → Fin 32 → Fin 32 → EReal} {E : Fin 8 → Fin 32 → Fin 32 → Fin 16 → EReal}
    {W0 : Fin 16 → Fin 32 → Fin 64 → EReal} {R0 : Fin 32 → Fin 64 → EReal} {W : Fin 3 → Fin 16 → Fin 64 → Fin 64 → EReal}
    {R : Fin 3 → Fin 64 → Fin 64 → EReal} {X : Fin 8 → Fin 32 → Fin 32 → EReal}
    (hA : ∀ b n i, IsReal (A b n i)) (hE : ∀ b n i s, IsReal (E b n i s)) (hW0 : ∀ s f u, IsReal (W0 s f u))
    (hR0 : ∀ f u, IsReal (R0 f u)) (hW : ∀ l s f u, IsReal (W l s f u)) (hR : ∀ l : Fin 3, l ≠ 2 → ∀ f u, IsReal (R l f u))
    (hX : ∀ b n f, IsReal (X b n f)) :
    layer A E (W 2) (R 2) (layer A E (W 1) (R 1) (layer A E (W 0) (R 0) (layer A E W0 R0 X)))
      = layerRef A E (W 2) (R 2) (layerRef A E (W 1) (R 1) (layerRef A E (W 0) (R 0) (layerRef A E W0 R0 X))) := by
  have h0 := layerRef_isReal hA hE hW0 hR0 hX
  have h1 := layerRef_isReal hA hE (hW 0) (hR 0 (by decide)) h0
  have h2 := layerRef_isReal hA hE (hW 1) (hR 1 (by decide)) h1
  rw [layer_eq hA hE hW0 hX, layer_eq hA hE (hW 0) h0, layer_eq hA hE (hW 1) h1, layer_eq hA hE (hW 2) h2]

/-- Under the precondition the reference's result at a graph and an output is the read-out of the kernel's four layers. -/
theorem ref_eq (x0 : S8x32x33.Idx → EReal) (x1 : S8x32x32.Idx → EReal) (x2 : S8x32x32x16.Idx → EReal) (x3 : S16x2048.Idx → EReal)
    (x4 : S2048.Idx → EReal) (x5 : S32x64.Idx → EReal) (x6 : S64.Idx → EReal) (x7 : S3x16x4096.Idx → EReal)
    (x8 : S3x4096.Idx → EReal) (x9 : S3x64x64.Idx → EReal) (x10 : S3x64.Idx → EReal) (x11 : S64x19.Idx → EReal)
    (x12 : S19.Idx → EReal) (h : Good x0 x1 x2 x3 x4 x5 x6 x7 x8 x9 x10 x12) (b : Fin 8) (o : Fin 19) :
    Read.val_main_v94 (F := Ideal) x0 x1 x2 x3 x4 x5 x6 x7 x8 x9 x10 x11 x12 (ix2 b o)
      = ∑ u : Fin 64, (∑ n : Fin 32, layer (dA x1) (dE x2) (dW x7 2) (dR x9 2) (layer (dA x1) (dE x2) (dW x7 1) (dR x9 1)
          (layer (dA x1) (dE x2) (dW x7 0) (dR x9 0) (layer (dA x1) (dE x2) (dW0 x3) (dR0 x5) (dX x0)))) b n u) * dD x11 u o := by
  rw [RefLayer.val_apply x0 x1 x2 x3 x4 x5 x6 x7 x8 x9 x10 x11 x12 h.mask h.wb0 h.b0 h.wb h.b h.db,
    layers_eq (A := dA x1) (E := dE x2) (W0 := dW0 x3) (R0 := dR0 x5) (W := dW x7) (R := dR x9) (X := dX x0) (fun _ _ _ => h.a _) (fun _ _ _ _ => h.e _) (fun _ _ _ => h.w0 _) (fun _ _ => h.r0 _) (fun _ _ _ _ => h.w _)
      (fun l hl f u => ?_) (fun _ _ _ => h.x _)]
  have hv : l.val ≠ 2 := fun h2 => hl (Fin.ext h2)
  exact h.r ⟨l.val, by omega⟩ f u

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Equation
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs to its end, keeps its arguments and leaves no semaphore raised. -/
theorem reference_frame : Cert.quiescent_ReferenceIdeal := fun m g _ =>
  θ_run_mono (Cert.ReferenceIdeal.Value.run m g) fun r hr => ⟨fun c => (hr c).2, sem_eq_zero_of_no_sems (by decide) r.2⟩

/-- On arguments that meet the precondition the reference's result is the kernel's. -/
theorem results_eq (m : (ℓ : Loc Cert.KernelIdeal.nD Cert.KernelIdeal.τ Cert.KernelIdeal.sig) → Buf (Elt Ideal) ℓ)
    (hpre : Cert.Pre_KernelIdeal_unbiased_unmasked_finite m) (c : Dev Cert.KernelIdeal.nD) :
    Cert.ReferenceIdeal.Read.val_main_v94 (F := Ideal) (m (c.tc.loc Cert.KernelIdeal.main_arg0))
        (m (c.tc.loc Cert.KernelIdeal.main_arg1)) (m (c.tc.loc Cert.KernelIdeal.main_arg2))
        (m (c.tc.loc Cert.KernelIdeal.main_arg3)) (m (c.tc.loc Cert.KernelIdeal.main_arg4))
        (m (c.tc.loc Cert.KernelIdeal.main_arg5)) (m (c.tc.loc Cert.KernelIdeal.main_arg6))
        (m (c.tc.loc Cert.KernelIdeal.main_arg7)) (m (c.tc.loc Cert.KernelIdeal.main_arg8))
        (m (c.tc.loc Cert.KernelIdeal.main_arg9)) (m (c.tc.loc Cert.KernelIdeal.main_arg10))
        (m (c.tc.loc Cert.KernelIdeal.main_arg11)) (m (c.tc.loc Cert.KernelIdeal.main_arg12))
      = Cert.Array.res m c := by
  obtain ⟨h0, h1, h2, h3, h4, h5, h6, h7, h8, h9, h10, h11, h12⟩ := hpre c
  funext j
  obtain ⟨b, o, rfl⟩ : ∃ (b : Fin 8) (o : Fin 19), j = ix2 b o := ⟨j 0, j 1, eq_ix2 j⟩
  exact Cert.Equation.ref_eq _ _ _ _ _ _ _ _ _ _ _ _ _ (Cert.PreRead.good_of_fn _ _ _ _ _ _ _ _ _ _ _ _ _
    (Prod.ext h0 (Prod.ext h1 (Prod.ext h2 (Prod.ext h3 (Prod.ext h4 (Prod.ext h5 (Prod.ext h6 (Prod.ext h7 (Prod.ext h8
      (Prod.ext h9 (Prod.ext h10 (Prod.ext h11 h12))))))))))))) b o

/-- On every memory that meets the precondition the kernel and the reference return the same array. -/
theorem algebraic : Cert.algebraic_KernelIdeal_ReferenceIdeal_pre_unbiased_unmasked_finite := by
  pair_intro
  · run_from Cert.KernelIdeal.Value.run_blocks m g
  · run_from Cert.ReferenceIdeal.Value.run m' g'
    obtain ⟨e0, e1, e2, e3, e4, e5, e6, e7, e8, e9, e10, e11, e12⟩ := hagree c
    rw [Cert.Array.arr_eq, Cert.ReferenceIdeal.Read.val_main_v94_eq, e0, e1, e2, e3, e4, e5, e6, e7, e8, e9, e10, e11, e12]
    exact results_eq m hpre c

/-- Everything the certificate claims. -/
theorem claim : Cert.Claim :=
  ⟨Cert.Kernel.Gen.facts, Cert.KernelIdeal.Gen.facts, Cert.ReferenceIdeal.Gen.facts, Cert.PreRead.preFacts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
